-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 2048]⟩ ⟨3, ![4, 2048, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 2048]⟩ (Layout.meshBlock [2, 4, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x2048 : Shape := ⟨3, ![1, 2048, 2048]⟩
abbrev S2048x512 : Shape := ⟨2, ![2048, 512]⟩
abbrev S3x256x512 : Shape := ⟨3, ![3, 256, 512]⟩
abbrev S4x256x512 : Shape := ⟨3, ![4, 256, 512]⟩
abbrev S256x512 : Shape := ⟨2, ![256, 512]⟩
abbrev S3 : Shape := ⟨1, ![3]⟩
abbrev S_ : Shape := ⟨0, ![]⟩
abbrev S1x256x512 : Shape := ⟨3, ![1, 256, 512]⟩
abbrev S1 : Shape := ⟨1, ![1]⟩

abbrev nBuf : Space → Nat
  | .hbm => 2
  | .vmem => 7
  | .smem => 0
  | _ => 0

abbrev bufTy : (tb : Table) → Fin (tcTables nBuf tb) → BufTy
  | .hbm, ⟨0, _⟩ => ⟨S1x2048x2048, .bf16⟩
  | .hbm, ⟨1, _⟩ => ⟨S2048x512, .f32⟩
  | .local _ .vmem, ⟨0, _⟩ => ⟨S1x2048x2048, .bf16⟩
  | .local _ .vmem, ⟨1, _⟩ => ⟨S2048x512, .f32⟩
  | .local _ .vmem, ⟨2, _⟩ => ⟨S3x256x512, .bf16⟩
  | .local _ .vmem, ⟨3, _⟩ => ⟨S3x256x512, .bf16⟩
  | .local _ .vmem, ⟨4, _⟩ => ⟨S4x256x512, .bf16⟩
  | .local _ .vmem, ⟨5, _⟩ => ⟨S4x256x512, .bf16⟩
  | .local _ .vmem, ⟨6, _⟩ => ⟨S256x512, .bf16⟩
  | _, _ => ⟨S1x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 2 → Bool
  | ⟨0, _⟩ => false
  | ⟨1, _⟩ => true
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 2 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_29 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_28 : BitVec 32 := 16#32
  let v39 : BitVec 32 := Scalar.muli v2 c16_i32_28
  let v40 : BitVec 32 := Scalar.addi c0_i32_29 v39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_25 : BitVec 32 := 1#32
  let v37 : BitVec 32 := Scalar.addi v5 c1_i32_25
  let c4_i32_26 : BitVec 32 := 4#32
  let v38 : BitVec 32 := Scalar.remsi v37 c4_i32_26
  let c4_i32_30 : BitVec 32 := 4#32
  let v41 : BitVec 32 := Scalar.muli v38 c4_i32_30
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v43 : BitVec 32 := Scalar.muli v8 c1_i32_31
  let v44 : BitVec 32 := Scalar.addi v42 v43
  v44.toNat
def k0_dev2 (d0 : Dev nD) : Nat :=
  let c0_i32_36 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_35 : BitVec 32 := 16#32
  let v47 : BitVec 32 := Scalar.muli v2 c16_i32_35
  let v48 : BitVec 32 := Scalar.addi c0_i32_36 v47
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_32 : BitVec 32 := 2#32
  let v45 : BitVec 32 := Scalar.addi v5 c2_i32_32
  let c4_i32_33 : BitVec 32 := 4#32
  let v46 : BitVec 32 := Scalar.remsi v45 c4_i32_33
  let c4_i32_37 : BitVec 32 := 4#32
  let v49 : BitVec 32 := Scalar.muli v46 c4_i32_37
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v51 : BitVec 32 := Scalar.muli v8 c1_i32_38
  let v52 : BitVec 32 := Scalar.addi v50 v51
  v52.toNat
def k0_dev3 (d0 : Dev nD) : Nat :=
  let c0_i32_42 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_41 : BitVec 32 := 16#32
  let v55 : BitVec 32 := Scalar.muli v2 c16_i32_41
  let v56 : BitVec 32 := Scalar.addi c0_i32_42 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v53 : BitVec 32 := Scalar.addi v5 c3_i32
  let c4_i32_39 : BitVec 32 := 4#32
  let v54 : BitVec 32 := Scalar.remsi v53 c4_i32_39
  let c4_i32_43 : BitVec 32 := 4#32
  let v57 : BitVec 32 := Scalar.muli v54 c4_i32_43
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v59 : BitVec 32 := Scalar.muli v8 c1_i32_44
  let v60 : BitVec 32 := Scalar.addi v58 v59
  v60.toNat
def k0_dev4 (d0 : Dev nD) : Nat :=
  let c0_i32_47 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_9 : BitVec 32 := 1#32
  let v20 : BitVec 32 := Scalar.subi v11 c1_i32_9
  let c8_i32_10 : BitVec 32 := 8#32
  let v21 : BitVec 32 := Scalar.addi v20 c8_i32_10
  let c8_i32_11 : BitVec 32 := 8#32
  let v22 : BitVec 32 := Scalar.remsi v21 c8_i32_11
  let c4_i32_12 : BitVec 32 := 4#32
  let v23 : BitVec 1 := Scalar.cmpi .slt v22 c4_i32_12
  let c0_i32_13 : BitVec 32 := 0#32
  let c1_i32_14 : BitVec 32 := 1#32
  let v24 : BitVec 32 := Scalar.select v23 c0_i32_13 c1_i32_14
  let c16_i32_46 : BitVec 32 := 16#32
  let v61 : BitVec 32 := Scalar.muli v24 c16_i32_46
  let v62 : BitVec 32 := Scalar.addi c0_i32_47 v61
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_48 : BitVec 32 := 4#32
  let v63 : BitVec 32 := Scalar.muli v5 c4_i32_48
  let v64 : BitVec 32 := Scalar.addi v62 v63
  let c4_i32_15 : BitVec 32 := 4#32
  let v25 : BitVec 1 := Scalar.cmpi .slt v22 c4_i32_15
  let c7_i32_16 : BitVec 32 := 7#32
  let v26 : BitVec 32 := Scalar.subi c7_i32_16 v22
  let v27 : BitVec 32 := Scalar.select v25 v22 v26
  let c1_i32_49 : BitVec 32 := 1#32
  let v65 : BitVec 32 := Scalar.muli v27 c1_i32_49
  let v66 : BitVec 32 := Scalar.addi v64 v65
  v66.toNat
def k0_dev5 (d0 : Dev nD) : Nat :=
  let c0_i32_52 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let v13 : BitVec 32 := Scalar.addi v12 c8_i32
  let c8_i32_3 : BitVec 32 := 8#32
  let v14 : BitVec 32 := Scalar.remsi v13 c8_i32_3
  let c4_i32_4 : BitVec 32 := 4#32
  let v15 : BitVec 1 := Scalar.cmpi .slt v14 c4_i32_4
  let c0_i32_5 : BitVec 32 := 0#32
  let c1_i32_6 : BitVec 32 := 1#32
  let v16 : BitVec 32 := Scalar.select v15 c0_i32_5 c1_i32_6
  let c16_i32_51 : BitVec 32 := 16#32
  let v67 : BitVec 32 := Scalar.muli v16 c16_i32_51
  let v68 : BitVec 32 := Scalar.addi c0_i32_52 v67
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_53 : BitVec 32 := 4#32
  let v69 : BitVec 32 := Scalar.muli v5 c4_i32_53
  let v70 : BitVec 32 := Scalar.addi v68 v69
  let c4_i32_7 : BitVec 32 := 4#32
  let v17 : BitVec 1 := Scalar.cmpi .slt v14 c4_i32_7
  let c7_i32_8 : BitVec 32 := 7#32
  let v18 : BitVec 32 := Scalar.subi c7_i32_8 v14
  let v19 : BitVec 32 := Scalar.select v17 v14 v18
  let c1_i32_54 : BitVec 32 := 1#32
  let v71 : BitVec 32 := Scalar.muli v19 c1_i32_54
  let v72 : BitVec 32 := Scalar.addi v70 v71
  v72.toNat
def k0_dev6 (d0 : Dev nD) : Nat :=
  let c0_i32_57 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c4_i32_17 : BitVec 32 := 4#32
  let v28 : BitVec 32 := Scalar.addi v11 c4_i32_17
  let c8_i32_18 : BitVec 32 := 8#32
  let v29 : BitVec 32 := Scalar.addi v28 c8_i32_18
  let c8_i32_19 : BitVec 32 := 8#32
  let v30 : BitVec 32 := Scalar.remsi v29 c8_i32_19
  let c4_i32_20 : BitVec 32 := 4#32
  let v31 : BitVec 1 := Scalar.cmpi .slt v30 c4_i32_20
  let c0_i32_21 : BitVec 32 := 0#32
  let c1_i32_22 : BitVec 32 := 1#32
  let v32 : BitVec 32 := Scalar.select v31 c0_i32_21 c1_i32_22
  let c16_i32_56 : BitVec 32 := 16#32
  let v73 : BitVec 32 := Scalar.muli v32 c16_i32_56
  let v74 : BitVec 32 := Scalar.addi c0_i32_57 v73
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_58 : BitVec 32 := 4#32
  let v75 : BitVec 32 := Scalar.muli v5 c4_i32_58
  let v76 : BitVec 32 := Scalar.addi v74 v75
  let c4_i32_23 : BitVec 32 := 4#32
  let v33 : BitVec 1 := Scalar.cmpi .slt v30 c4_i32_23
  let c7_i32_24 : BitVec 32 := 7#32
  let v34 : BitVec 32 := Scalar.subi c7_i32_24 v30
  let v35 : BitVec 32 := Scalar.select v33 v30 v34
  let c1_i32_59 : BitVec 32 := 1#32
  let v77 : BitVec 32 := Scalar.muli v35 c1_i32_59
  let v78 : BitVec 32 := Scalar.addi v76 v77
  v78.toNat
def k0_off1 (d0 : Dev nD) (c0_i32_61 : BitVec 32) : Fin 3 → Nat :=
  let c0 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c256_i32 : BitVec 32 := 256#32
  let v82 : BitVec 32 := Scalar.muli v11 c256_i32
  let v84 : Index := Scalar.indexCast v82
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_60 : BitVec 32 := 1#32
  let v79 : BitVec 32 := Scalar.addi v5 c1_i32_60
  let v80 : BitVec 32 := Scalar.addi v79 c0_i32_61
  let c4_i32_62 : BitVec 32 := 4#32
  let v81 : BitVec 32 := Scalar.remsi v80 c4_i32_62
  let c512_i32 : BitVec 32 := 512#32
  let v83 : BitVec 32 := Scalar.muli v81 c512_i32
  let v85 : Index := Scalar.indexCast v83
  ![0, v84.toNat, v85.toNat]
def k0_off2 (d0 : Dev nD) (c0_i32_83 : BitVec 32) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_82 : BitVec 32 := 1#32
  let v115 : BitVec 32 := Scalar.addi v5 c1_i32_82
  let v116 : BitVec 32 := Scalar.addi v115 c0_i32_83
  let c4_i32_84 : BitVec 32 := 4#32
  let v117 : BitVec 32 := Scalar.remsi v116 c4_i32_84
  let v118 : BitVec 32 := Scalar.subi v5 v117
  let c1_i32_85 : BitVec 32 := 1#32
  let v119 : BitVec 32 := Scalar.subi v118 c1_i32_85
  let c8_i32_86 : BitVec 32 := 8#32
  let v120 : BitVec 32 := Scalar.addi v119 c8_i32_86
  let c4_i32_87 : BitVec 32 := 4#32
  let v121 : BitVec 32 := Scalar.remsi v120 c4_i32_87
  ![v121.toNat]
def k0_off3 (d0 : Dev nD) (c0_i32_83 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_82 : BitVec 32 := 1#32
  let v115 : BitVec 32 := Scalar.addi v5 c1_i32_82
  let v116 : BitVec 32 := Scalar.addi v115 c0_i32_83
  let c4_i32_84 : BitVec 32 := 4#32
  let v117 : BitVec 32 := Scalar.remsi v116 c4_i32_84
  let v118 : BitVec 32 := Scalar.subi v5 v117
  let c1_i32_85 : BitVec 32 := 1#32
  let v119 : BitVec 32 := Scalar.subi v118 c1_i32_85
  let c8_i32_86 : BitVec 32 := 8#32
  let v120 : BitVec 32 := Scalar.addi v119 c8_i32_86
  let c4_i32_87 : BitVec 32 := 4#32
  let v121 : BitVec 32 := Scalar.remsi v120 c4_i32_87
  let c0_i32_94 : BitVec 32 := 0#32
  let c0_i32_95 : BitVec 32 := 0#32
  ![v121.toNat, 0, 0]
def k0_dev7 (d0 : Dev nD) : Nat :=
  let c0_i32_91 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_90 : BitVec 32 := 16#32
  let v122 : BitVec 32 := Scalar.muli v2 c16_i32_90
  let v123 : BitVec 32 := Scalar.addi c0_i32_91 v122
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_82 : BitVec 32 := 1#32
  let v115 : BitVec 32 := Scalar.addi v5 c1_i32_82
  let c0_i32_83 : BitVec 32 := 0#32
  let v116 : BitVec 32 := Scalar.addi v115 c0_i32_83
  let c4_i32_84 : BitVec 32 := 4#32
  let v117 : BitVec 32 := Scalar.remsi v116 c4_i32_84
  let c4_i32_92 : BitVec 32 := 4#32
  let v124 : BitVec 32 := Scalar.muli v117 c4_i32_92
  let v125 : BitVec 32 := Scalar.addi v123 v124
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v126 : BitVec 32 := Scalar.muli v8 c1_i32_93
  let v127 : BitVec 32 := Scalar.addi v125 v126
  v127.toNat
def k0_dev8 (d0 : Dev nD) : Nat :=
  let c0_i32_107 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_106 : BitVec 32 := 16#32
  let v143 : BitVec 32 := Scalar.muli v2 c16_i32_106
  let v144 : BitVec 32 := Scalar.addi c0_i32_107 v143
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_98 : BitVec 32 := 1#32
  let v136 : BitVec 32 := Scalar.addi v5 c1_i32_98
  let c1_i32_99 : BitVec 32 := 1#32
  let v137 : BitVec 32 := Scalar.addi v136 c1_i32_99
  let c4_i32_100 : BitVec 32 := 4#32
  let v138 : BitVec 32 := Scalar.remsi v137 c4_i32_100
  let c4_i32_108 : BitVec 32 := 4#32
  let v145 : BitVec 32 := Scalar.muli v138 c4_i32_108
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v147 : BitVec 32 := Scalar.muli v8 c1_i32_109
  let v148 : BitVec 32 := Scalar.addi v146 v147
  v148.toNat
def k0_dev9 (d0 : Dev nD) : Nat :=
  let c0_i32_123 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_122 : BitVec 32 := 16#32
  let v164 : BitVec 32 := Scalar.muli v2 c16_i32_122
  let v165 : BitVec 32 := Scalar.addi c0_i32_123 v164
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_114 : BitVec 32 := 1#32
  let v157 : BitVec 32 := Scalar.addi v5 c1_i32_114
  let c2_i32_115 : BitVec 32 := 2#32
  let v158 : BitVec 32 := Scalar.addi v157 c2_i32_115
  let c4_i32_116 : BitVec 32 := 4#32
  let v159 : BitVec 32 := Scalar.remsi v158 c4_i32_116
  let c4_i32_124 : BitVec 32 := 4#32
  let v166 : BitVec 32 := Scalar.muli v159 c4_i32_124
  let v167 : BitVec 32 := Scalar.addi v165 v166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_125 : BitVec 32 := 1#32
  let v168 : BitVec 32 := Scalar.muli v8 c1_i32_125
  let v169 : BitVec 32 := Scalar.addi v167 v168
  v169.toNat
def k0_off4 (d0 : Dev nD) : Fin 3 → Nat :=
  let c0_132 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c256_i32_130 : BitVec 32 := 256#32
  let v178 : BitVec 32 := Scalar.muli v11 c256_i32_130
  let v180 : Index := Scalar.indexCast v178
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c512_i32_131 : BitVec 32 := 512#32
  let v179 : BitVec 32 := Scalar.muli v5 c512_i32_131
  let v181 : Index := Scalar.indexCast v179
  ![0, v180.toNat, v181.toNat]
def k0_dev10 (d0 : Dev nD) : Nat :=
  let c0_i32_210 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let v13 : BitVec 32 := Scalar.addi v12 c8_i32
  let c8_i32_3 : BitVec 32 := 8#32
  let v14 : BitVec 32 := Scalar.remsi v13 c8_i32_3
  let c4_i32_4 : BitVec 32 := 4#32
  let v15 : BitVec 1 := Scalar.cmpi .slt v14 c4_i32_4
  let c0_i32_5 : BitVec 32 := 0#32
  let c1_i32_6 : BitVec 32 := 1#32
  let v16 : BitVec 32 := Scalar.select v15 c0_i32_5 c1_i32_6
  let c16_i32_209 : BitVec 32 := 16#32
  let v258 : BitVec 32 := Scalar.muli v16 c16_i32_209
  let v259 : BitVec 32 := Scalar.addi c0_i32_210 v258
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_211 : BitVec 32 := 4#32
  let v260 : BitVec 32 := Scalar.muli v5 c4_i32_211
  let v261 : BitVec 32 := Scalar.addi v259 v260
  let c4_i32_7 : BitVec 32 := 4#32
  let v17 : BitVec 1 := Scalar.cmpi .slt v14 c4_i32_7
  let c7_i32_8 : BitVec 32 := 7#32
  let v18 : BitVec 32 := Scalar.subi c7_i32_8 v14
  let v19 : BitVec 32 := Scalar.select v17 v14 v18
  let c1_i32_212 : BitVec 32 := 1#32
  let v262 : BitVec 32 := Scalar.muli v19 c1_i32_212
  let v263 : BitVec 32 := Scalar.addi v261 v262
  v263.toNat
def k0_dev11 (d0 : Dev nD) : Nat :=
  let c0_i32_219 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c4_i32_17 : BitVec 32 := 4#32
  let v28 : BitVec 32 := Scalar.addi v11 c4_i32_17
  let c8_i32_18 : BitVec 32 := 8#32
  let v29 : BitVec 32 := Scalar.addi v28 c8_i32_18
  let c8_i32_19 : BitVec 32 := 8#32
  let v30 : BitVec 32 := Scalar.remsi v29 c8_i32_19
  let c4_i32_20 : BitVec 32 := 4#32
  let v31 : BitVec 1 := Scalar.cmpi .slt v30 c4_i32_20
  let c0_i32_21 : BitVec 32 := 0#32
  let c1_i32_22 : BitVec 32 := 1#32
  let v32 : BitVec 32 := Scalar.select v31 c0_i32_21 c1_i32_22
  let c16_i32_218 : BitVec 32 := 16#32
  let v272 : BitVec 32 := Scalar.muli v32 c16_i32_218
  let v273 : BitVec 32 := Scalar.addi c0_i32_219 v272
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_220 : BitVec 32 := 4#32
  let v274 : BitVec 32 := Scalar.muli v5 c4_i32_220
  let v275 : BitVec 32 := Scalar.addi v273 v274
  let c4_i32_23 : BitVec 32 := 4#32
  let v33 : BitVec 1 := Scalar.cmpi .slt v30 c4_i32_23
  let c7_i32_24 : BitVec 32 := 7#32
  let v34 : BitVec 32 := Scalar.subi c7_i32_24 v30
  let v35 : BitVec 32 := Scalar.select v33 v30 v34
  let c1_i32_221 : BitVec 32 := 1#32
  let v276 : BitVec 32 := Scalar.muli v35 c1_i32_221
  let v277 : BitVec 32 := Scalar.addi v275 v276
  v277.toNat
def k0_dev12 (d0 : Dev nD) : Nat :=
  let c0_i32_481_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let v13 : BitVec 32 := Scalar.addi v12 c8_i32
  let c8_i32_3 : BitVec 32 := 8#32
  let v14 : BitVec 32 := Scalar.remsi v13 c8_i32_3
  let c4_i32_4 : BitVec 32 := 4#32
  let v15 : BitVec 1 := Scalar.cmpi .slt v14 c4_i32_4
  let c0_i32_5 : BitVec 32 := 0#32
  let c1_i32_6 : BitVec 32 := 1#32
  let v16 : BitVec 32 := Scalar.select v15 c0_i32_5 c1_i32_6
  let c16_i32_480_r0 : BitVec 32 := 16#32
  let v536_r0 : BitVec 32 := Scalar.muli v16 c16_i32_480_r0
  let v537_r0 : BitVec 32 := Scalar.addi c0_i32_481_r0 v536_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_482_r0 : BitVec 32 := 4#32
  let v538_r0 : BitVec 32 := Scalar.muli v5 c4_i32_482_r0
  let v539_r0 : BitVec 32 := Scalar.addi v537_r0 v538_r0
  let c4_i32_7 : BitVec 32 := 4#32
  let v17 : BitVec 1 := Scalar.cmpi .slt v14 c4_i32_7
  let c7_i32_8 : BitVec 32 := 7#32
  let v18 : BitVec 32 := Scalar.subi c7_i32_8 v14
  let v19 : BitVec 32 := Scalar.select v17 v14 v18
  let c1_i32_483_r0 : BitVec 32 := 1#32
  let v540_r0 : BitVec 32 := Scalar.muli v19 c1_i32_483_r0
  let v541_r0 : BitVec 32 := Scalar.addi v539_r0 v540_r0
  v541_r0.toNat
def k0_dev13 (d0 : Dev nD) : Nat :=
  let c0_i32_229 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_9 : BitVec 32 := 1#32
  let v20 : BitVec 32 := Scalar.subi v11 c1_i32_9
  let c8_i32_10 : BitVec 32 := 8#32
  let v21 : BitVec 32 := Scalar.addi v20 c8_i32_10
  let c8_i32_11 : BitVec 32 := 8#32
  let v22 : BitVec 32 := Scalar.remsi v21 c8_i32_11
  let c4_i32_12 : BitVec 32 := 4#32
  let v23 : BitVec 1 := Scalar.cmpi .slt v22 c4_i32_12
  let c0_i32_13 : BitVec 32 := 0#32
  let c1_i32_14 : BitVec 32 := 1#32
  let v24 : BitVec 32 := Scalar.select v23 c0_i32_13 c1_i32_14
  let c16_i32_228 : BitVec 32 := 16#32
  let v280 : BitVec 32 := Scalar.muli v24 c16_i32_228
  let v281 : BitVec 32 := Scalar.addi c0_i32_229 v280
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_230 : BitVec 32 := 4#32
  let v282 : BitVec 32 := Scalar.muli v5 c4_i32_230
  let v283 : BitVec 32 := Scalar.addi v281 v282
  let c4_i32_15 : BitVec 32 := 4#32
  let v25 : BitVec 1 := Scalar.cmpi .slt v22 c4_i32_15
  let c7_i32_16 : BitVec 32 := 7#32
  let v26 : BitVec 32 := Scalar.subi c7_i32_16 v22
  let v27 : BitVec 32 := Scalar.select v25 v22 v26
  let c1_i32_231 : BitVec 32 := 1#32
  let v284 : BitVec 32 := Scalar.muli v27 c1_i32_231
  let v285 : BitVec 32 := Scalar.addi v283 v284
  v285.toNat
def k0_off5 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c256_i32_236 : BitVec 32 := 256#32
  let v294 : BitVec 32 := Scalar.muli v11 c256_i32_236
  let v295 : Index := Scalar.indexCast v294
  let c0_237 : Index := 0#32
  ![v295.toNat, 0]
def k0_dev14 (d0 : Dev nD) : Nat :=
  let c0_i32_255 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let v13 : BitVec 32 := Scalar.addi v12 c8_i32
  let c8_i32_3 : BitVec 32 := 8#32
  let v14 : BitVec 32 := Scalar.remsi v13 c8_i32_3
  let c4_i32_4 : BitVec 32 := 4#32
  let v15 : BitVec 1 := Scalar.cmpi .slt v14 c4_i32_4
  let c0_i32_5 : BitVec 32 := 0#32
  let c1_i32_6 : BitVec 32 := 1#32
  let v16 : BitVec 32 := Scalar.select v15 c0_i32_5 c1_i32_6
  let c16_i32_254 : BitVec 32 := 16#32
  let v309 : BitVec 32 := Scalar.muli v16 c16_i32_254
  let v310 : BitVec 32 := Scalar.addi c0_i32_255 v309
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_256 : BitVec 32 := 4#32
  let v311 : BitVec 32 := Scalar.muli v5 c4_i32_256
  let v312 : BitVec 32 := Scalar.addi v310 v311
  let c4_i32_7 : BitVec 32 := 4#32
  let v17 : BitVec 1 := Scalar.cmpi .slt v14 c4_i32_7
  let c7_i32_8 : BitVec 32 := 7#32
  let v18 : BitVec 32 := Scalar.subi c7_i32_8 v14
  let v19 : BitVec 32 := Scalar.select v17 v14 v18
  let c1_i32_257 : BitVec 32 := 1#32
  let v313 : BitVec 32 := Scalar.muli v19 c1_i32_257
  let v314 : BitVec 32 := Scalar.addi v312 v313
  v314.toNat
def k0_dev15 (d0 : Dev nD) : Nat :=
  let c0_i32_279 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_9 : BitVec 32 := 1#32
  let v20 : BitVec 32 := Scalar.subi v11 c1_i32_9
  let c8_i32_10 : BitVec 32 := 8#32
  let v21 : BitVec 32 := Scalar.addi v20 c8_i32_10
  let c8_i32_11 : BitVec 32 := 8#32
  let v22 : BitVec 32 := Scalar.remsi v21 c8_i32_11
  let c4_i32_12 : BitVec 32 := 4#32
  let v23 : BitVec 1 := Scalar.cmpi .slt v22 c4_i32_12
  let c0_i32_13 : BitVec 32 := 0#32
  let c1_i32_14 : BitVec 32 := 1#32
  let v24 : BitVec 32 := Scalar.select v23 c0_i32_13 c1_i32_14
  let c16_i32_278 : BitVec 32 := 16#32
  let v335 : BitVec 32 := Scalar.muli v24 c16_i32_278
  let v336 : BitVec 32 := Scalar.addi c0_i32_279 v335
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_280 : BitVec 32 := 4#32
  let v337 : BitVec 32 := Scalar.muli v5 c4_i32_280
  let v338 : BitVec 32 := Scalar.addi v336 v337
  let c4_i32_15 : BitVec 32 := 4#32
  let v25 : BitVec 1 := Scalar.cmpi .slt v22 c4_i32_15
  let c7_i32_16 : BitVec 32 := 7#32
  let v26 : BitVec 32 := Scalar.subi c7_i32_16 v22
  let v27 : BitVec 32 := Scalar.select v25 v22 v26
  let c1_i32_281 : BitVec 32 := 1#32
  let v339 : BitVec 32 := Scalar.muli v27 c1_i32_281
  let v340 : BitVec 32 := Scalar.addi v338 v339
  v340.toNat
def k0_off6 (d0 : Dev nD) (c0_i32_286 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v349 : BitVec 32 := Scalar.subi v11 c0_i32_286
  let c1_i32_287 : BitVec 32 := 1#32
  let v350 : BitVec 32 := Scalar.subi v349 c1_i32_287
  let c8_i32_288 : BitVec 32 := 8#32
  let v351 : BitVec 32 := Scalar.addi v350 c8_i32_288
  let c8_i32_289 : BitVec 32 := 8#32
  let v352 : BitVec 32 := Scalar.remsi v351 c8_i32_289
  let c256_i32_293 : BitVec 32 := 256#32
  let v356 : BitVec 32 := Scalar.muli v352 c256_i32_293
  let v357 : Index := Scalar.indexCast v356
  let c0_294 : Index := 0#32
  ![v357.toNat, 0]
def k0_off7 (d0 : Dev nD) (c0_i32_295 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v359 : BitVec 32 := Scalar.addi v11 c0_i32_295
  let c1_i32_296 : BitVec 32 := 1#32
  let v360 : BitVec 32 := Scalar.addi v359 c1_i32_296
  let c8_i32_297 : BitVec 32 := 8#32
  let v361 : BitVec 32 := Scalar.remsi v360 c8_i32_297
  let c256_i32_301 : BitVec 32 := 256#32
  let v365 : BitVec 32 := Scalar.muli v361 c256_i32_301
  let v366 : Index := Scalar.indexCast v365
  let c0_302 : Index := 0#32
  ![v366.toNat, 0]
def k0_dev16 (d0 : Dev nD) : Nat :=
  let c0_i32_320 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let v13 : BitVec 32 := Scalar.addi v12 c8_i32
  let c8_i32_3 : BitVec 32 := 8#32
  let v14 : BitVec 32 := Scalar.remsi v13 c8_i32_3
  let c4_i32_4 : BitVec 32 := 4#32
  let v15 : BitVec 1 := Scalar.cmpi .slt v14 c4_i32_4
  let c0_i32_5 : BitVec 32 := 0#32
  let c1_i32_6 : BitVec 32 := 1#32
  let v16 : BitVec 32 := Scalar.select v15 c0_i32_5 c1_i32_6
  let c16_i32_319 : BitVec 32 := 16#32
  let v380 : BitVec 32 := Scalar.muli v16 c16_i32_319
  let v381 : BitVec 32 := Scalar.addi c0_i32_320 v380
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_321 : BitVec 32 := 4#32
  let v382 : BitVec 32 := Scalar.muli v5 c4_i32_321
  let v383 : BitVec 32 := Scalar.addi v381 v382
  let c4_i32_7 : BitVec 32 := 4#32
  let v17 : BitVec 1 := Scalar.cmpi .slt v14 c4_i32_7
  let c7_i32_8 : BitVec 32 := 7#32
  let v18 : BitVec 32 := Scalar.subi c7_i32_8 v14
  let v19 : BitVec 32 := Scalar.select v17 v14 v18
  let c1_i32_322 : BitVec 32 := 1#32
  let v384 : BitVec 32 := Scalar.muli v19 c1_i32_322
  let v385 : BitVec 32 := Scalar.addi v383 v384
  v385.toNat
def k0_dev17 (d0 : Dev nD) : Nat :=
  let c0_i32_344 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_9 : BitVec 32 := 1#32
  let v20 : BitVec 32 := Scalar.subi v11 c1_i32_9
  let c8_i32_10 : BitVec 32 := 8#32
  let v21 : BitVec 32 := Scalar.addi v20 c8_i32_10
  let c8_i32_11 : BitVec 32 := 8#32
  let v22 : BitVec 32 := Scalar.remsi v21 c8_i32_11
  let c4_i32_12 : BitVec 32 := 4#32
  let v23 : BitVec 1 := Scalar.cmpi .slt v22 c4_i32_12
  let c0_i32_13 : BitVec 32 := 0#32
  let c1_i32_14 : BitVec 32 := 1#32
  let v24 : BitVec 32 := Scalar.select v23 c0_i32_13 c1_i32_14
  let c16_i32_343 : BitVec 32 := 16#32
  let v406 : BitVec 32 := Scalar.muli v24 c16_i32_343
  let v407 : BitVec 32 := Scalar.addi c0_i32_344 v406
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_345 : BitVec 32 := 4#32
  let v408 : BitVec 32 := Scalar.muli v5 c4_i32_345
  let v409 : BitVec 32 := Scalar.addi v407 v408
  let c4_i32_15 : BitVec 32 := 4#32
  let v25 : BitVec 1 := Scalar.cmpi .slt v22 c4_i32_15
  let c7_i32_16 : BitVec 32 := 7#32
  let v26 : BitVec 32 := Scalar.subi c7_i32_16 v22
  let v27 : BitVec 32 := Scalar.select v25 v22 v26
  let c1_i32_346 : BitVec 32 := 1#32
  let v410 : BitVec 32 := Scalar.muli v27 c1_i32_346
  let v411 : BitVec 32 := Scalar.addi v409 v410
  v411.toNat
def k0_off8 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c4_i32_415 : BitVec 32 := 4#32
  let v490 : BitVec 32 := Scalar.addi v11 c4_i32_415
  let c8_i32_416 : BitVec 32 := 8#32
  let v491 : BitVec 32 := Scalar.remsi v490 c8_i32_416
  let c256_i32_419 : BitVec 32 := 256#32
  let v494 : BitVec 32 := Scalar.muli v491 c256_i32_419
  let v495 : Index := Scalar.indexCast v494
  let c0_420 : Index := 0#32
  ![v495.toNat, 0]
abbrev stage0_0 : Fin 1 → Memref sig .tc .vmem S1x2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x2048x2048 : Shape := ⟨3, ![4, 2048, 2048]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .f32⟩
  | .hbm, ⟨2, _⟩ => ⟨S_, .f32⟩
  | .hbm, ⟨3, _⟩ => ⟨S2048x2048, .f32⟩
  | .hbm, ⟨4, _⟩ => ⟨S2048x2048, .bf16⟩
  | .hbm, ⟨5, _⟩ => ⟨S2048x2048, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Topology.lean ====
/-
  The devices as the kernel sees them: eight devices in a ring at each of the four values of the mesh axis `y`.

  A device's position in its ring counts the devices of axis `x = 0` upwards along `z` and those of `x = 1` downwards, so that ring neighbours are mesh neighbours. `ring k c` is the device `k`
  positions after `c` in its ring, `across k c` the device `k` steps further along `y` at the same position. The device numbers that the kernel computes for its signals and transfers are of
  these two forms (`dev1_eq` …).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option backward.proofsInPublic true

namespace Cert.AllReduce

open Cert.KernelIdeal Cert.KernelIdeal.Gen
open Idealize.ShloMosaic

/-- The position of device `c` in its ring. -/
def pos (c : Dev nD) : Fin 8 := ⟨if c.val / 16 = 0 then c.val % 4 else 7 - c.val % 4, by split <;> omega⟩
/-- The coordinate of device `c` along `y`. -/
def col (c : Dev nD) : Fin 4 := ⟨c.val / 4 % 4, Nat.mod_lt _ (by decide)⟩
/-- The device at position `p` of the ring at `q`. -/
def devAt (p : Fin 8) (q : Fin 4) : Dev nD :=
  ⟨16 * (if p.val < 4 then 0 else 1) + 4 * q.val + (if p.val < 4 then p.val else 7 - p.val), by
    have := p.isLt; have := q.isLt; show _ < 32; split <;> omega⟩

theorem pos_devAt (p : Fin 8) (q : Fin 4) : pos (devAt p q) = p := by revert p q; decide +kernel
theorem col_devAt (p : Fin 8) (q : Fin 4) : col (devAt p q) = q := by revert p q; decide +kernel
theorem devAt_pos_col (c : Dev nD) : devAt (pos c) (col c) = c := by revert c; decide +kernel

/-- The device `k` positions after `c` in its ring. -/
def ring (k : Fin 8) (c : Dev nD) : Dev nD := devAt (pos c + k) (col c)
/-- The device `k` steps after `c` along `y`. -/
def across (k : Fin 4) (c : Dev nD) : Dev nD := devAt (pos c) (col c + k)

theorem pos_ring (k : Fin 8) (c : Dev nD) : pos (ring k c) = pos c + k := pos_devAt _ _
theorem col_ring (k : Fin 8) (c : Dev nD) : col (ring k c) = col c := col_devAt _ _
theorem pos_across (k : Fin 4) (c : Dev nD) : pos (across k c) = pos c := pos_devAt _ _
theorem col_across (k : Fin 4) (c : Dev nD) : col (across k c) = col c + k := col_devAt _ _

theorem ring_add_assoc : ∀ a b c : Fin 8, a + b + c = a + (b + c) := by decide +kernel
theorem across_add_assoc : ∀ a b c : Fin 4, a + b + c = a + (b + c) := by decide +kernel
theorem ring_ring (a b : Fin 8) (c : Dev nD) : ring a (ring b c) = ring (b + a) c := by
  unfold ring; rw [pos_devAt, col_devAt, ring_add_assoc]
theorem across_across (a b : Fin 4) (c : Dev nD) : across a (across b c) = across (b + a) c := by
  unfold across; rw [pos_devAt, col_devAt, across_add_assoc]
theorem ring_zero (c : Dev nD) : ring 0 c = c := by unfold ring; rw [Fin.add_zero, devAt_pos_col]
theorem across_zero (c : Dev nD) : across 0 c = c := by unfold across; rw [Fin.add_zero, devAt_pos_col]

/-- Going `k` positions round the ring is a permutation of the devices, undone by going `-k`. -/
def ringE (k : Fin 8) : Dev nD ≃ Dev nD :=
  ⟨ring k, ring (-k), fun c => by rw [ring_ring, show k + -k = 0 by revert k; decide, ring_zero], fun c => by rw [ring_ring, show -k + k = 0 by revert k; decide, ring_zero]⟩
/-- So is going `k` steps along `y`. -/
def acrossE (k : Fin 4) : Dev nD ≃ Dev nD :=
  ⟨across k, across (-k), fun c => by rw [across_across, show k + -k = 0 by revert k; decide, across_zero], fun c => by rw [across_across, show -k + k = 0 by revert k; decide, across_zero]⟩

/-! ## The devices that the kernel names -/

theorem dev1_eq (c : Dev nD) : (⟨k0_dev1 c, k0_dev1_lt c⟩ : Dev nD) = across 1 c := Fin.ext ((k0_dev1_eq c).trans (by revert c; decide +kernel))
theorem dev2_eq (c : Dev nD) : (⟨k0_dev2 c, k0_dev2_lt c⟩ : Dev nD) = across 2 c := Fin.ext ((k0_dev2_eq c).trans (by revert c; decide +kernel))
theorem dev3_eq (c : Dev nD) : (⟨k0_dev3 c, k0_dev3_lt c⟩ : Dev nD) = across 3 c := Fin.ext ((k0_dev3_eq c).trans (by revert c; decide +kernel))
theorem dev4_eq (c : Dev nD) : (⟨k0_dev4 c, k0_dev4_lt c⟩ : Dev nD) = ring 7 c := Fin.ext ((k0_dev4_eq c).trans (by revert c; decide +kernel))
theorem dev5_eq (c : Dev nD) : (⟨k0_dev5 c, k0_dev5_lt c⟩ : Dev nD) = ring 1 c := Fin.ext ((k0_dev5_eq c).trans (by revert c; decide +kernel))
theorem dev6_eq (c : Dev nD) : (⟨k0_dev6 c, k0_dev6_lt c⟩ : Dev nD) = ring 4 c := Fin.ext ((k0_dev6_eq c).trans (by revert c; decide +kernel))
theorem dev7_eq (c : Dev nD) : (⟨k0_dev7 c, k0_dev7_lt c⟩ : Dev nD) = across 1 c := Fin.ext ((k0_dev7_eq c).trans (by revert c; decide +kernel))
theorem dev8_eq (c : Dev nD) : (⟨k0_dev8 c, k0_dev8_lt c⟩ : Dev nD) = across 2 c := Fin.ext ((k0_dev8_eq c).trans (by revert c; decide +kernel))
theorem dev9_eq (c : Dev nD) : (⟨k0_dev9 c, k0_dev9_lt c⟩ : Dev nD) = across 3 c := Fin.ext ((k0_dev9_eq c).trans (by revert c; decide +kernel))
theorem dev10_eq (c : Dev nD) : (⟨k0_dev10 c, k0_dev10_lt c⟩ : Dev nD) = ring 1 c := Fin.ext ((k0_dev10_eq c).trans (by revert c; decide +kernel))
theorem dev11_eq (c : Dev nD) : (⟨k0_dev11 c, k0_dev11_lt c⟩ : Dev nD) = ring 4 c := Fin.ext ((k0_dev11_eq c).trans (by revert c; decide +kernel))
theorem dev12_eq (c : Dev nD) : (⟨k0_dev12 c, k0_dev12_lt c⟩ : Dev nD) = ring 1 c := Fin.ext ((k0_dev12_eq c).trans (by revert c; decide +kernel))
theorem dev13_eq (c : Dev nD) : (⟨k0_dev13 c, k0_dev13_lt c⟩ : Dev nD) = ring 7 c := Fin.ext ((k0_dev13_eq c).trans (by revert c; decide +kernel))
theorem dev14_eq (c : Dev nD) : (⟨k0_dev14 c, k0_dev14_lt c⟩ : Dev nD) = ring 1 c := Fin.ext ((k0_dev14_eq c).trans (by revert c; decide +kernel))
theorem dev15_eq (c : Dev nD) : (⟨k0_dev15 c, k0_dev15_lt c⟩ : Dev nD) = ring 7 c := Fin.ext ((k0_dev15_eq c).trans (by revert c; decide +kernel))
theorem dev16_eq (c : Dev nD) : (⟨k0_dev16 c, k0_dev16_lt c⟩ : Dev nD) = ring 1 c := Fin.ext ((k0_dev16_eq c).trans (by revert c; decide +kernel))
theorem dev17_eq (c : Dev nD) : (⟨k0_dev17 c, k0_dev17_lt c⟩ : Dev nD) = ring 7 c := Fin.ext ((k0_dev17_eq c).trans (by revert c; decide +kernel))

/-! ## The rectangles whose corner depends on the device -/

/-- The y-exchange's block `h` lands in slot `2 - h` at its receiver, whatever the device. -/
theorem off2_eq (c : Dev nD) (h : Fin 3) : k0_off2 c (BitVec.ofNat 32 h.val) = ![2 - h.val] :=
  (k0_off2_eq c h).trans (congrArg (fun n : ℕ => ![n]) (by revert c h; decide +kernel))
theorem off3_eq (c : Dev nD) (h : Fin 3) : k0_off3 c (BitVec.ofNat 32 h.val) = ![2 - h.val, 0, 0] :=
  (k0_off3_eq c h).trans (congrArg (fun n : ℕ => ![n, 0, 0]) (by revert c h; decide +kernel))

/-- The rows of the block at position `pos c`, the columns of the device `r + 1` further along `y`. -/
theorem off1_eq (c : Dev nD) (r : Fin 3) : k0_off1 c (BitVec.ofNat 32 r.val) = ![0, 256 * (pos c).val, 512 * (col c + r.castSucc + 1).val] :=
  (k0_off1_eq c r).trans (congrArg (fun n : ℕ => ![0, 256 * (pos c).val, 512 * n]) (by revert c r; decide +kernel))
theorem off4_eq (c : Dev nD) : k0_off4 c = ![0, 256 * (pos c).val, 512 * (col c).val] := k0_off4_eq c

/-- The rows of the block at position `p` of the result. -/
theorem off5_eq (c : Dev nD) : k0_off5 c = ![256 * (pos c).val, 0] := k0_off5_eq c
theorem off6_eq (c : Dev nD) (h : Fin 3) : k0_off6 c (BitVec.ofNat 32 h.val) = ![256 * (pos (ring ⟨7 - h.val, by omega⟩ c)).val, 0] :=
  (k0_off6_eq c h).trans (congrArg (fun n : ℕ => ![256 * n, 0]) (by revert c h; decide +kernel))
theorem off7_eq (c : Dev nD) (h : Fin 3) : k0_off7 c (BitVec.ofNat 32 h.val) = ![256 * (pos (ring ⟨1 + h.val, by omega⟩ c)).val, 0] :=
  (k0_off7_eq c h).trans (congrArg (fun n : ℕ => ![256 * n, 0]) (by revert c h; decide +kernel))
theorem off8_eq (c : Dev nD) : k0_off8 c = ![256 * (pos (ring 4 c)).val, 0] :=
  (k0_off8_eq c).trans (congrArg (fun n : ℕ => ![256 * n, 0]) (by revert c; decide +kernel))

end Cert.AllReduce

end
-- ==== Proof.Cells.lean ====
/-
  The protocol of the kernel as a schedule of rounds (Lib/Rounds.lean): per semaphore, who raises it in which round and what the raise hands to the waiting device.

  A device waits on sixteen semaphores, numbered here by kind:
    0        the runtime's barrier semaphore        1        the ready semaphore between the two halves of the kernel
    2, 3, 4  the forward sends' own semaphores      5, 6, 7  the forward arrivals
    8, 9, 10 the own semaphores of the exchange along `y` (round 0) and of the backward sends (round 1)
    11, 12, 13 the arrivals of the exchange along `y` (round 0) and of the backward sends (round 1)
    14       the antipodal send's own semaphore     15       the antipodal arrival
-/
module

public import proofs.«01_k».proof.Proof.Topology
public import Idealize.ShloMosaic.Lib.MemrefSat
public import Idealize.ShloMosaic.Lib.Pipeline.SiteBlocks
public import Idealize.ShloMosaic.Lib.Pipeline.Value

@[expose] public section

set_option backward.proofsInPublic true

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the rounds' -/

abbrev UB : Type := URounds (GSem nD τ sig) (Fin 6)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The buffers and their slots -/

abbrev xM : Memref sig .tc .vmem S1x2048x2048 .bf16 := Memref.whole cc0_stg0_0
abbrev oM : Memref sig .tc .vmem S2048x512 .f32 := Memref.whole cc0_stg1_0
abbrev ysM : Memref sig .tc .vmem S3x256x512 .bf16 := Memref.whole cc0_scratch0
abbrev yrM : Memref sig .tc .vmem S3x256x512 .bf16 := Memref.whole cc0_scratch1
abbrev fwM : Memref sig .tc .vmem S4x256x512 .bf16 := Memref.whole cc0_scratch2
abbrev bwM : Memref sig .tc .vmem S4x256x512 .bf16 := Memref.whole cc0_scratch3
abbrev apM : Memref sig .tc .vmem S256x512 .bf16 := Memref.whole cc0_scratch4

theorem inb3 (i : Fin 3) : ∀ a, (![i.val, 0, 0] : Fin 3 → Nat) a + S1x256x512.size a ≤ S3x256x512.size a := by revert i; decide
theorem inb4 (i : Fin 4) : ∀ a, (![i.val, 0, 0] : Fin 3 → Nat) a + S1x256x512.size a ≤ S4x256x512.size a := by revert i; decide

/-- Slot `i` of a buffer of three blocks, and of one of four, as the transfers name it. -/
abbrev rect3 (i : Fin 3) : Rect S3x256x512 := Rect.unit (s := S3x256x512) ![i.val, 0, 0] S1x256x512.size (inb3 i)
abbrev rect4 (i : Fin 4) : Rect S4x256x512 := Rect.unit (s := S4x256x512) ![i.val, 0, 0] S1x256x512.size (inb4 i)
abbrev slot3 (M : Memref sig .tc .vmem S3x256x512 .bf16) (i : Fin 3) : Memref sig .tc .vmem S256x512 .bf16 :=
  (M.slice (rect3 i) (fun _ => rfl)).squeeze S256x512 squeezes_S1x256x512_S256x512
abbrev slot4 (M : Memref sig .tc .vmem S4x256x512 .bf16) (i : Fin 4) : Memref sig .tc .vmem S256x512 .bf16 :=
  (M.slice (rect4 i) (fun _ => rfl)).squeeze S256x512 squeezes_S1x256x512_S256x512

abbrev Blk (F : FTy → Type) : Type := FVec F S256x512 .bf16
/-- A block with its leading unit axis dropped, and put back. -/
abbrev sq (X : FVec F S1x256x512 .bf16) : Blk F := shapeCast S256x512 X shapeCasts_S1x256x512_S256x512
abbrev unsq (X : Blk F) : FVec F S1x256x512 .bf16 := shapeCast S1x256x512 X shapeCasts_S256x512_S1x256x512
omit [FloatOps F] in
theorem sq_unsq (X : Blk F) : sq (unsq X) = X := shapeCast_shapeCast X _ _
omit [FloatOps F] in
theorem unsq_sq (X : FVec F S1x256x512 .bf16) : unsq (sq X) = X := shapeCast_shapeCast X _ _

/-- The units that a transfer of one block raises a DMA semaphore by. -/
abbrev N : ℕ := apM.view.dmaCredit
theorem N_pos : 0 < N := View.dmaCredit_pos _ (by decide)
theorem credit_ys (i : Fin 3) : (slot3 ysM i).view.dmaCredit = N := rfl
theorem credit_yr (i : Fin 3) : (slot3 yrM i).view.dmaCredit = N := rfl
theorem credit_fw (i : Fin 4) : (slot4 fwM i).view.dmaCredit = N := rfl
theorem credit_bw (i : Fin 4) : (slot4 bwM i).view.dmaCredit = N := rfl

/-! ## The semaphores -/

/-- The runtime's barrier semaphore and the semaphore that the kernel allocates itself. -/
abbrev barS : Sem sig := (SemArray.scalar (sig.barrier 0 rfl) : Sems sig S_).sem

/-- The semaphore of a kind. -/
abbrev csem (k : Fin 16) : SemLoc sig := if k.val = 0 then .reg barS else if k.val = 1 then .reg (1 : Fin 2) else .dma (⟨k.val, k.isLt⟩ : Fin 16)
abbrev kcell (x : Dev nD × Fin 16) : GSem nD τ sig := ((x.1 : Thread nD τ), csem x.2)

/-- The kind of a semaphore, if it has one: all but the two of the staging buffers do. -/
def kindOf : SemLoc sig → Option (Fin 16)
  | .reg s => if s.val = 0 then some 0 else some 1
  | .dma q => if h : 2 ≤ q.val ∧ q.val < 16 then some ⟨q.val, h.2⟩ else none

theorem kindOf_csem (k : Fin 16) : kindOf (csem k) = some k := by revert k; decide

theorem csem_inj : Function.Injective csem := fun a b h => by
  have := congrArg kindOf h; rw [kindOf_csem, kindOf_csem] at this; exact Option.some.inj this

theorem kcell_inj : Function.Injective kcell := fun a b h => by
  obtain ⟨h1, h2⟩ := Prod.mk.inj h
  exact Prod.ext (congrArg (fun t : Thread nD τ => t.1) h1) (csem_inj h2)

/-! ## Contents -/

/-- The staging buffer of the argument on device `c`: its block of `x`. -/
def xstg (c : Dev nD) : (cc0_stg0_0 : Ref sig .tc).ty.Contents (Elt F) :=
  (win0_0.blk (0 : Fin 1)).view.read (Elt F) ((s₀ m ρ).mem ((c : Thread nD τ).loc main_arg0))

/-- What device `c` reads of its argument at `h = 0, 1, 2`: its block rows in the columns of the device `h + 1` further along `y`. -/
def chunk (c : Dev nD) (h : Fin 3) : FVec F S1x256x512 .bf16 :=
  xM.view.readAt (Elt F) (Rect.unit (s := S1x2048x2048) (k0_off1 c (BitVec.ofNat 32 h.val)) S1x256x512.size (k0_off1_inb c h)).toLoadRect (xstg m ρ c)
/-- Its block rows in its own columns. -/
def mine (c : Dev nD) : FVec F S1x256x512 .bf16 :=
  xM.view.readAt (Elt F) (Rect.unit (s := S1x2048x2048) (k0_off4 c) S1x256x512.size (k0_off4_inb c)).toLoadRect (xstg m ρ c)

/-- The block that device `c` sends along `y` at `h`. -/
def ysv (c : Dev nD) (h : Fin 3) : Blk F := sq (k0_pay1 (chunk m ρ c h))
/-- The sum of the four blocks that device `c` has after the exchange along `y`, in the order in which it adds them; -/
def acc (c : Dev nD) : FVec F S256x512 .f32 :=
  k0_pay6 (k0_pay5 (k0_pay4 (mine m ρ c)) (unsq (ysv m ρ (across 1 c) 2)) (unsq (ysv m ρ (across 2 c) 1))) (unsq (ysv m ρ (across 3 c) 0))
/-- and as it goes round the ring. -/
def own (c : Dev nD) : Blk F := sq (k0_pay8 (acc m ρ c))

/-! ## What the raises hand over -/

abbrev lsh : PosShare TreeShare := fullShare.left
abbrev rsh : PosShare TreeShare := fullShare.right

/-- Block `X` in a slot of device `c`, at share `q`. -/
abbrev holds (c : Dev nD) (M : Memref sig .tc .vmem S256x512 .bf16) (q : PosShare TreeShare) (X : Blk F) : sProp 𝕄 :=
  owns (Ix := ℕ) (Name := ℕ) (U := UU) (Lvl := ℕ) (Val := Elt F) (c : Thread nD τ) M q X
/-- A slot of device `c` that may be written. -/
abbrev room (c : Dev nD) (M : Memref sig .tc .vmem S256x512 .bf16) : sProp 𝕄 := iprop(∃ X : Blk F, holds c M fullShare X)

/-- Device `c`'s barrier: each of the six signals hands it the slots at the signaller that it is going to write. -/
def barPay (c : Dev nD) : Fin 6 → sProp 𝕄
  | 0 => room (across 3 c) (slot3 yrM 0)
  | 1 => room (across 2 c) (slot3 yrM 1)
  | 2 => room (across 1 c) (slot3 yrM 2)
  | 3 => iprop(room (ring 1 c) (slot4 fwM 1) ∗ room (ring 1 c) (slot4 fwM 2) ∗ room (ring 1 c) (slot4 fwM 3))
  | 4 => iprop(room (ring 7 c) (slot4 bwM 1) ∗ room (ring 7 c) (slot4 bwM 2) ∗ room (ring 7 c) (slot4 bwM 3))
  | 5 => room (ring 4 c) apM

/-- The ready signal: the device before is through with round 0 of its three arrival semaphores. -/
def midPay (c : Dev nD) : sProp 𝕄 :=
  iprop(reached ER (kcell (ring 7 c, 11)) 1 ∗ reached ER (kcell (ring 7 c, 12)) 1 ∗ reached ER (kcell (ring 7 c, 13)) 1)

/-- What the raises of round `r` of device `c`'s semaphore of kind `k` hand over. -/
def pay (c : Dev nD) (k : Fin 16) (r : ℕ) (d : Fin 6) : sProp 𝕄 := match k with
  | 0 => barPay c d
  | 1 => midPay c
  | 2 => holds c (slot4 fwM 0) lsh (own m ρ c)
  | 3 => holds c (slot4 fwM 1) lsh (own m ρ (ring 7 c))
  | 4 => holds c (slot4 fwM 2) lsh (own m ρ (ring 6 c))
  | 5 => holds c (slot4 fwM 1) fullShare (own m ρ (ring 7 c))
  | 6 => holds c (slot4 fwM 2) fullShare (own m ρ (ring 6 c))
  | 7 => holds c (slot4 fwM 3) fullShare (own m ρ (ring 5 c))
  | 8 => if r = 0 then holds c (slot3 ysM 0) fullShare (ysv m ρ c 0) else holds c (slot4 bwM 0) lsh (own m ρ c)
  | 9 => if r = 0 then holds c (slot3 ysM 1) fullShare (ysv m ρ c 1) else holds c (slot4 bwM 1) lsh (own m ρ (ring 1 c))
  | 10 => if r = 0 then holds c (slot3 ysM 2) fullShare (ysv m ρ c 2) else holds c (slot4 bwM 2) lsh (own m ρ (ring 2 c))
  | 11 => if r = 0 then holds c (slot3 yrM 0) fullShare (ysv m ρ (across 1 c) 2) else holds c (slot4 bwM 1) fullShare (own m ρ (ring 1 c))
  | 12 => if r = 0 then holds c (slot3 yrM 1) fullShare (ysv m ρ (across 2 c) 1) else holds c (slot4 bwM 2) fullShare (own m ρ (ring 2 c))
  | 13 => if r = 0 then holds c (slot3 yrM 2) fullShare (ysv m ρ (across 3 c) 0) else holds c (slot4 bwM 3) fullShare (own m ρ (ring 3 c))
  | 14 => holds c (slot4 fwM 0) rsh (own m ρ c)
  | 15 => holds c apM fullShare (own m ρ (ring 4 c))
  | ⟨_ + 16, h⟩ => absurd h (Nat.not_lt.2 (Nat.le_add_left _ _))

/-- Which raises a round has: six of the barrier, one of every other semaphore; a second round only on the semaphores that the backward sends use again. -/
def dutiesK (k : Fin 16) (r : ℕ) : Finset (Fin 6) :=
  if r = 0 then (if k = 0 then Finset.univ else {0}) else if r = 1 ∧ 8 ≤ k.val ∧ k.val ≤ 13 then {0} else ∅
/-- The units of one raise. -/
def amt (k : Fin 16) : ℕ := if k.val < 2 then 1 else N

/-- The schedule. -/
def sched : Rounds.Schedule (GSem nD τ sig) (Fin 6) 𝕄 where
  duties g r := if g.1.2 = .tc then (match kindOf g.2 with | some k => dutiesK k r | none => ∅) else ∅
  unitless _ := False
  amount g _ _ := match kindOf g.2 with | some k => amt k | none => 1
  payload g r d := match kindOf g.2 with | some k => pay m ρ g.1.1 k r d | none => iprop(emp)
  amount_pos g _ _ _ := by
    split
    · unfold amt; split
      · exact Nat.one_pos
      · exact N_pos
    · exact Nat.one_pos

instance barPay_storable (c : Dev nD) (d : Fin 6) : BI.Storable (upEmb : UEmb _ 𝕄) (barPay (F := F) c d) := by
  unfold barPay; split <;> infer_instance
instance midPay_storable (c : Dev nD) : BI.Storable (upEmb : UEmb _ 𝕄) (midPay (F := F) c) := by unfold midPay; infer_instance
instance pay_storable (c : Dev nD) (k : Fin 16) (r : ℕ) (d : Fin 6) : BI.Storable (upEmb : UEmb _ 𝕄) (pay m ρ c k r d) := by
  unfold pay; (repeat' split) <;> first | infer_instance | (exfalso; omega)
instance sched_payload_storable (g : GSem nD τ sig) (r : ℕ) (d : Fin 6) : BI.Storable (upEmb : UEmb _ 𝕄) ((sched (F := F) m ρ).payload g r d) := by
  dsimp only [sched]; split <;> infer_instance

theorem duties_eq (x : Dev nD × Fin 16) (r : ℕ) : (sched m ρ).duties (kcell x) r = dutiesK x.2 r := by
  dsimp only [sched]; rw [if_pos rfl, kindOf_csem]
theorem amount_eq (x : Dev nD × Fin 16) (r : ℕ) (d : Fin 6) : (sched m ρ).amount (kcell x) r d = amt x.2 := by
  dsimp only [sched]; rw [kindOf_csem]
theorem payload_eq (x : Dev nD × Fin 16) (r : ℕ) (d : Fin 6) : (sched m ρ).payload (kcell x) r d = pay m ρ x.1 x.2 r d := by
  dsimp only [sched]; rw [kindOf_csem]

/-- A round of one raise expects its units; -/
theorem expect_one (x : Dev nD × Fin 16) (r : ℕ) (h : dutiesK x.2 r = {0}) : (sched m ρ).expect (kcell x) r = amt x.2 := by
  unfold Schedule.expect Schedule.amountOf; rw [duties_eq, h, Finset.sum_singleton, amount_eq]
/-- the barrier's, six. -/
theorem expect_bar (c : Dev nD) : (sched m ρ).expect (kcell (c, 0)) 0 = 6 := by
  unfold Schedule.expect Schedule.amountOf
  rw [duties_eq, Finset.sum_congr rfl fun d _ => amount_eq m ρ (c, 0) 0 d, Finset.sum_const]
  rfl

theorem rest_one (x : Dev nD × Fin 16) (r : ℕ) (h : dutiesK x.2 r = {0}) :
    bigSep ((sched m ρ).duties (kcell x) r \ ∅) (fun d => (sched m ρ).payload (kcell x) r d) = pay m ρ x.1 x.2 r 0 := by
  rw [Finset.sdiff_empty, duties_eq, h, bigSep_singleton, payload_eq]
theorem rest_bar (c : Dev nD) :
    bigSep ((sched m ρ).duties (kcell (c, 0)) 0 \ ∅) (fun d => (sched m ρ).payload (kcell (c, 0)) 0 d)
      = iprop(barPay c 0 ∗ barPay c 1 ∗ barPay c 2 ∗ barPay c 3 ∗ barPay c 4 ∗ barPay c 5) := by
  rw [Finset.sdiff_empty, duties_eq, show dutiesK (c, (0 : Fin 16)).2 0 = Finset.univ from rfl,
    bigSep_univ_eq_bigSepL [(0 : Fin 6), 1, 2, 3, 4, 5] (by decide) (by decide)]
  simp only [payload_eq]
  rfl

theorem duties_later (x : Dev nD × Fin 16) (R : ℕ) (hR : R = 2 ∨ (R = 1 ∧ ¬(8 ≤ x.2.val ∧ x.2.val ≤ 13))) :
    ∀ r, R ≤ r → (sched m ρ).duties (kcell x) r = ∅ := fun r hr => by
  rw [duties_eq]; unfold dutiesK
  rw [if_neg (by omega), if_neg (by omega)]

end Cert.AllReduce

end
-- ==== Proof.Dues.lean ====
/-
  What a device owes the other devices: seventeen raises, listed in program order, each at an index that is its level.

  A device waits for a raise of index `i` only while everything that it still owes has a higher index. The barrier has index 1, the exchange along `y` 2, the ready signal 3, and the later
  transfers 4 to 10 in the order in which the devices wait for them.
-/
module

public import proofs.«01_k».proof.Proof.Cells

@[expose] public section

set_option backward.proofsInPublic true

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- A raise that a device makes of another's semaphore: of which kind, in which round, as which of the round's raises, at which index. -/
structure Raise where
  dst : Dev nD
  k : Fin 16
  r : ℕ
  d : Fin 6
  i : ℕ

/-- The raise as a debt. -/
abbrev Raise.tally (p : Raise) : CellTallies nD τ sig ℕ := tallyAt (kcell (p.dst, p.k)) p.i (amt p.k)

/-- The debt of a list of raises: the head's on the outside. -/
def owedL : List Raise → CellTallies nD τ sig ℕ
  | [] => 0
  | p :: l => owedL l + p.tally

theorem owedL_cons (p : Raise) (l : List Raise) : owedL (p :: l) = owedL l + p.tally := rfl

theorem owedL_pos {l : List Raise} {g : GSem nD τ sig} {i : ℕ} (h : 0 < owedL l g i) : ∃ p ∈ l, g = kcell (p.dst, p.k) ∧ i = p.i := by
  induction l with
  | nil => exact absurd h (Nat.lt_irrefl 0)
  | cons p l ih =>
    rw [owedL_cons, Pi.add_apply, Finsupp.add_apply] at h
    rcases Nat.add_pos_iff_pos_or_pos.mp h with h | h
    · obtain ⟨q, hq, hg⟩ := ih h
      exact ⟨q, List.mem_cons_of_mem _ hq, hg⟩
    · rw [Raise.tally, tallyAt_apply] at h
      by_cases hn : g = kcell (p.dst, p.k) ∧ i = p.i
      · exact ⟨p, List.mem_cons_self, hn⟩
      · rw [if_neg hn] at h; exact absurd h (Nat.lt_irrefl 0)

/-- The raises of device `c`, in program order. -/
def raises (c : Dev nD) : List Raise :=
  [⟨across 1 c, 0, 0, 0, 1⟩, ⟨across 2 c, 0, 0, 1, 1⟩, ⟨across 3 c, 0, 0, 2, 1⟩, ⟨ring 7 c, 0, 0, 3, 1⟩, ⟨ring 1 c, 0, 0, 4, 1⟩, ⟨ring 4 c, 0, 0, 5, 1⟩,
    ⟨across 1 c, 13, 0, 0, 2⟩, ⟨across 2 c, 12, 0, 0, 2⟩, ⟨across 3 c, 11, 0, 0, 2⟩,
    ⟨ring 1 c, 5, 0, 0, 4⟩, ⟨ring 4 c, 15, 0, 0, 10⟩, ⟨ring 1 c, 1, 0, 0, 3⟩, ⟨ring 7 c, 11, 1, 0, 5⟩,
    ⟨ring 1 c, 6, 0, 0, 6⟩, ⟨ring 7 c, 12, 1, 0, 7⟩, ⟨ring 1 c, 7, 0, 0, 8⟩, ⟨ring 7 c, 13, 1, 0, 9⟩]

/-- What is left of them after the first `n`. -/
abbrev left (c : Dev nD) (n : ℕ) : List Raise := (raises c).drop n

/-- The indices of the raises, in program order. -/
def indices : List ℕ := [1, 1, 1, 1, 1, 1, 2, 2, 2, 4, 10, 3, 5, 6, 7, 8, 9]
theorem above (c : Dev nD) (n : ℕ) {i b : ℕ} (h : ∀ j ∈ indices.drop n, i < j ∧ j < b) : ∀ j ∈ (left c n).map Raise.i, i < j ∧ j < b := by
  have e : (left c n).map Raise.i = indices.drop n := List.map_drop
  rw [e]; exact h

/-- Device `c` owes the raises of `l`, whatever waits it has recorded. -/
def owe (c : Dev nD) (l : List Raise) : sProp 𝕄 := iprop(∃ W, owes (c : Thread nD τ) (owedL l) W)

/-- The number of levels. -/
abbrev NL : ℕ := 16
abbrev LL : GSem nD τ sig → Finset ℕ := SiteBlocks.L NL
abbrev lv : GSem nD τ sig → ℕ → ℕ := SiteBlocks.lv

omit [FloatOps F] in
/-- A wait at index `i` is allowed while the raises owed have higher indices. -/
theorem mayWait_owed (c : Dev nD) (sm : SemLoc sig) (i : ℕ) (l : List Raise) (hi : i < NL) (hl : ∀ j ∈ l.map Raise.i, i < j ∧ j < NL) :
    (levAts LL lv : sProp 𝕄) ⊢ MayWait (c : Thread nD τ) sm i (owedL l) :=
  SiteBlocks.mayWait_of hi c sm _ fun g k hk => by
    obtain ⟨p, hp, rfl, rfl⟩ := owedL_pos hk
    obtain ⟨h1, h2⟩ := hl p.i (List.mem_map_of_mem hp)
    exact ⟨SiteBlocks.mem_L _ _ h2, h1⟩

/-! ## The credit of the launch -/

/-- A raise and the devices it comes from: a permutation takes the raising device to the raised one. -/
structure Tab where
  f : Dev nD ≃ Dev nD
  k : Fin 16
  r : ℕ
  d : Fin 6
  i : ℕ

abbrev Tab.at (t : Tab) (c : Dev nD) : Raise := ⟨t.f c, t.k, t.r, t.d, t.i⟩

/-- The raises of every device at once. -/
def tab : List Tab :=
  [⟨acrossE 1, 0, 0, 0, 1⟩, ⟨acrossE 2, 0, 0, 1, 1⟩, ⟨acrossE 3, 0, 0, 2, 1⟩, ⟨ringE 7, 0, 0, 3, 1⟩, ⟨ringE 1, 0, 0, 4, 1⟩, ⟨ringE 4, 0, 0, 5, 1⟩,
    ⟨acrossE 1, 13, 0, 0, 2⟩, ⟨acrossE 2, 12, 0, 0, 2⟩, ⟨acrossE 3, 11, 0, 0, 2⟩,
    ⟨ringE 1, 5, 0, 0, 4⟩, ⟨ringE 4, 15, 0, 0, 10⟩, ⟨ringE 1, 1, 0, 0, 3⟩, ⟨ringE 7, 11, 1, 0, 5⟩,
    ⟨ringE 1, 6, 0, 0, 6⟩, ⟨ringE 7, 12, 1, 0, 7⟩, ⟨ringE 1, 7, 0, 0, 8⟩, ⟨ringE 7, 13, 1, 0, 9⟩]

theorem raises_eq (c : Dev nD) : raises c = tab.map fun t => t.at c := rfl

/-- The credit for the raises of a table that a device is to receive. -/
def credL (c : Dev nD) : List Tab → sProp 𝕄
  | [] => iprop(emp)
  | t :: l => iprop(credL c l ∗ cred (tallyAt (kcell (c, t.k)) t.i (amt t.k)))

omit [FloatOps F] in
theorem launchCred_tab (c : Dev nD) (l : List Tab) :
    (Pipeline.launchCred (fun d => owedL (l.map fun t => t.at d)) c : sProp 𝕄) ⊢ credL c l := by
  induction l with
  | nil =>
    unfold credL
    iintro -; iempintro
  | cons t l ih =>
    show (Pipeline.launchCred (fun d => owedL (l.map fun t => t.at d) + (t.at d).tally) c : sProp 𝕄) ⊢ _
    rw [Pipeline.launchCred_add]
    unfold credL
    refine BI.sep_mono ih ?_
    exact Pipeline.launchCred_tallyAt (csem t.k) t.f t.f.symm t.f.apply_symm_apply t.f.symm_apply_apply t.i (amt t.k) c

end Cert.AllReduce

end
-- ==== Proof.Known.lean ====
/-
  What every device knows throughout the run: the semaphores' invariants, that all have reached round 0, and the levels of the waits.
-/
module

public import proofs.«01_k».proof.Proof.Dues

@[expose] public section

set_option backward.proofsInPublic true

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none

/-- A program of device `c`, run to its end in `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

/-- The invariants of all the semaphores, under the names `K` of the launch. -/
def invs (K : Dev nD × Fin 16 → ℕ) : sProp 𝕄 := bigSep Finset.univ (fun x => cellInv ER (sched m ρ) (K x) (kcell x))
/-- All semaphores have reached round 0. -/
def zeros : sProp 𝕄 := bigSep Finset.univ (fun x : Dev nD × Fin 16 => reached ER (kcell x) 0)
/-- The levels of the waits. -/
def levels : sProp 𝕄 := levAts LL lv
/-- What every device knows throughout the run. -/
def known (K : Dev nD × Fin 16 → ℕ) : sProp 𝕄 := iprop(invs m ρ K ∗ zeros ∗ levels)

instance invs_persistent (K : Dev nD × Fin 16 → ℕ) : BI.Persistent (invs m ρ K) := by unfold invs; infer_instance
instance zeros_persistent : BI.Persistent (zeros (F := F)) := by unfold zeros; infer_instance
instance levels_persistent : BI.Persistent (levels (F := F)) := by unfold levels; infer_instance
instance known_persistent (K : Dev nD × Fin 16 → ℕ) : BI.Persistent (known m ρ K) := by unfold known; infer_instance

variable (K : Dev nD × Fin 16 → ℕ)

theorem known_inv (x : Dev nD × Fin 16) : known m ρ K ⊢ cellInv ER (sched m ρ) (K x) (kcell x) := by
  have h : invs m ρ K ⊢ cellInv ER (sched m ρ) (K x) (kcell x) := bigSep_elim (Finset.mem_univ x)
  unfold known
  iintro ⟨H, -, -⟩
  iapply h $$ H
theorem known_reached (x : Dev nD × Fin 16) : known m ρ K ⊢ (reached ER (kcell x) 0 : sProp 𝕄) := by
  have h : zeros ⊢ (reached ER (kcell x) 0 : sProp 𝕄) := bigSep_elim (Finset.mem_univ x)
  unfold known
  iintro ⟨-, H, -⟩
  iapply h $$ H
theorem known_lev : known m ρ K ⊢ levels (F := F) := by
  unfold known
  iintro ⟨-, -, H⟩
  iexact H
theorem known_mayWait (c : Dev nD) (sm : SemLoc sig) (i : ℕ) (l : List Raise) (hi : i < NL) (hl : ∀ j ∈ l.map Raise.i, i < j ∧ j < NL) :
    known m ρ K ⊢ (MayWait (c : Thread nD τ) sm i (owedL l) : sProp 𝕄) :=
  by
  unfold known levels
  iintro ⟨-, -, H⟩
  iapply (mayWait_owed c sm i l hi hl) $$ H

end Cert.AllReduce
end
-- ==== Proof.Steps.lean ====
/-
  One lemma per kind of step that the kernel takes, each in terms of blocks held in slots and of the list of raises still owed.
-/
module

public import proofs.«01_k».proof.Proof.Known

@[expose] public section

set_option backward.proofsInPublic true

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

variable (K : Dev nD × Fin 16 → ℕ)

/-! ## Signals and transfers -/

/-- A signal: the head of the list owed is paid, its payload handed over. -/
theorem step_signal (c : Dev nD) {α : Type} {Q : α → sProp 𝕄} {n : Dev nD} {sem : Sem sig} {kont : PUnit → Prog (TpuEff nD τ sig (Elt F) Λ₀ .tc) α}
    {t : Dev nD} {k : Fin 16} {d : Fin 6} {i : ℕ} {l l' : List Raise} {P : sProp 𝕄}
    (hl : l = ⟨t, k, 0, d, i⟩ :: l') (hn : n = t) (hs : (SemLoc.reg sem : SemLoc sig) = csem k) (hk : amt k = 1) (hd : d ∈ dutiesK k 0) (hP : P ⊢ pay m ρ t k 0 d) :
    iprop(known m ρ K ∗ owe c l ∗ dutyTok ER (kcell (t, k)) 0 d ∗ P)
      ⊢ iprop((owe c l' -∗ runs c (kont ⟨⟩) Q) -∗ runs c (.op (.semSignal (n, .tc) sem (1#32).toInt) kont) Q) := by
  subst hl hn
  have e : kcell (n, k) = ((n : Thread nD τ), SemLoc.reg sem) := by rw [hs]
  have eO : owedL (⟨n, k, 0, d, i⟩ :: l') = owedL l' + tallyAt ((n : Thread nD τ), SemLoc.reg sem) i 1 := by rw [owedL_cons, Raise.tally, ← e, hk]
  have dD : d ∈ (sched m ρ).duties (kcell (n, k)) 0 := by rw [duties_eq]; exact hd
  have aD : (sched m ρ).amount (kcell (n, k)) 0 d = 1 := by rw [amount_eq]; exact hk
  have pD := payload_eq m ρ (n, k) 0 d
  have hI := known_inv m ρ K (n, k)
  have hR := known_reached m ρ K (n, k)
  rw [← pD] at hP
  rw [e] at hI hR dD aD hP ⊢
  unfold owe
  iintro ⟨#HK, ⟨%W, Ho⟩, Ht, Hp⟩ Hk
  ihave #HI := hI $$ HK
  ihave #HR := hR $$ HK
  iapply (Rounds.wp_signal 𝒱₀ ER (sched m ρ) (c : Thread nD τ) none (dst := (n : Thread nD τ)) (κ := K (n, k)) (r := 0) (d := d) (k' := 1) (W := W)
      dD aD i (owedL l') eO) $$ [HI HR Ho Ht Hp]
  · isplitr; · iexact HI
    isplitl [Ho]; · iexact Ho
    isplitl [Ht]; · iexact Ht
    isplitl [Hp]; · iapply hP $$ Hp
    iexact HR
  iintro Ho
  iapply Hk
  iexists W; iexact Ho

/-- A transfer of a block to the head of the list owed: the slot it leaves is handed to the semaphore of kind `kS` of this device, the slot it fills, with the block, to the receiver. -/
theorem step_send (c : Dev nD) {α : Type} {Q : α → sProp 𝕄} {n : Dev nD} {src : Memref sig .tc .vmem S256x512 .bf16} {dst : Memref sig (Dev.tc n : Thread nD τ).2.kind .vmem S256x512 .bf16} {sS sD : DmaSem sig}
    {hsc : dst.view.ref.isScScratch = false} {hsrc : src.view.WordExact} {hdst : dst.view.WordExact}
    {hsem : DmaTarget.Typed .vmem (.dma sD) (.remote (Dev.tc n : Thread nD τ) dst (.dma sS) hsc)}
    {kont : PUnit → Prog (TpuEff nD τ sig (Elt F) Λ₀ .tc) α}
    {t : Dev nD} {kS kD : Fin 16} {rS rD i : ℕ} {src' dst' : Memref sig .tc .vmem S256x512 .bf16} {q : PosShare TreeShare} {X : Blk F} {l l' : List Raise}
    (hl : l = ⟨t, kD, rD, 0, i⟩ :: l') (hn : n = t) (hS : (SemLoc.dma sS : SemLoc sig) = csem kS) (hD : (SemLoc.dma sD : SemLoc sig) = csem kD)
    (hsrc' : src = src') (hdst' : dst = dst') (hN : dst'.view.dmaCredit = N) (hkS : amt kS = N) (hkD : amt kD = N)
    (hdS : (0 : Fin 6) ∈ dutiesK kS rS) (hdD : (0 : Fin 6) ∈ dutiesK kD rD)
    (hpS : holds c src' q X ⊢ pay m ρ c kS rS 0) (hpD : holds t dst' fullShare X ⊢ pay m ρ t kD rD 0) :
    iprop(known m ρ K ∗ owe c l ∗ holds c src' q X ∗ room t dst' ∗ dutyTok ER (kcell (c, kS)) rS 0 ∗ reached ER (kcell (c, kS)) rS
        ∗ dutyTok ER (kcell (t, kD)) rD 0 ∗ reached ER (kcell (t, kD)) rD)
      ⊢ iprop(((cred (tallyAt (kcell (c, kS)) 2 N) ∗ owe c l') -∗ runs c (kont ⟨⟩) Q)
          -∗ runs c (.op (.enqueueDma src (.remote (Dev.tc n : Thread nD τ) dst (.dma sS) hsc) (.dma sD) hsrc hdst hsem) kont) Q) := by
  subst hl hn hsrc' hdst'
  have hpS' : ∀ f, src.view.read (Elt F) f = X → ((src.view.loc (c : Thread nD τ)) ↦[src.view.set]{q} f : sProp 𝕄) ⊢ (sched m ρ).payload (kcell (c, kS)) rS 0 := fun f hf => by
    rw [payload_eq]
    refine .trans ?_ hpS
    unfold holds owns
    iintro H; iexists f
    isplitr; · ipureintro; exact hf
    iexact H
  have hpD' : ∀ f, dst.view.read (Elt F) f = X → ((dst.view.loc (n : Thread nD τ)) ↦[dst.view.set]{fullShare} f : sProp 𝕄) ⊢ (sched m ρ).payload (kcell (n, kD)) rD 0 := fun f hf => by
    rw [payload_eq]
    refine .trans ?_ hpD
    unfold holds owns
    iintro H; iexists f
    isplitr; · ipureintro; exact hf
    iexact H
  have eS : kcell (c, kS) = ((c : Thread nD τ), SemLoc.dma sS) := by rw [hS]
  have eD : kcell (n, kD) = ((n : Thread nD τ), SemLoc.dma sD) := by rw [hD]
  have eO : owedL (⟨n, kD, rD, 0, i⟩ :: l') = owedL l' + tallyAt ((n : Thread nD τ), SemLoc.dma sD) i N := by rw [owedL_cons, Raise.tally, ← eD, hkD]
  have dS : (0 : Fin 6) ∈ (sched m ρ).duties (kcell (c, kS)) rS := by rw [duties_eq]; exact hdS
  have dD : (0 : Fin 6) ∈ (sched m ρ).duties (kcell (n, kD)) rD := by rw [duties_eq]; exact hdD
  have aS : (sched m ρ).amount (kcell (c, kS)) rS 0 = N := by rw [amount_eq]; exact hkS
  have aD : (sched m ρ).amount (kcell (n, kD)) rD 0 = N := by rw [amount_eq]; exact hkD
  have hIS := known_inv m ρ K (c, kS)
  have hID := known_inv m ρ K (n, kD)
  rw [eS] at hIS dS aS hpS' ⊢
  rw [eD] at hID dD aD hpD' ⊢
  unfold room holds owns owe
  iintro ⟨#HK, ⟨%W, Ho⟩, ⟨%fs, %hfs, Hsrc⟩, ⟨%Y, %fd, %hfd, Hdst⟩, HtS, #HrS, HtD, #HrD⟩ Hk
  ihave #HIS := hIS $$ HK
  ihave #HID := hID $$ HK
  iapply (Rounds.wp_send_pointsTo 𝒱₀ ER (sched m ρ) (c : Thread nD τ) none (κ₁ := K (c, kS)) (κ₂ := K (n, kD)) (r₁ := rS) (r₂ := rD) (d₁ := 0) (d₂ := 0) (fd := fd)
      (q := q) (fs := fs) (src := src) (dst := dst) dS dD i 2 N hN aS aD (owedL l') eO (W := W) (hpS' fs hfs)
      (hpD' _ (by rw [View.read_write_univ]; exact hfs)))
    $$ [HIS HID Hsrc Hdst Ho HtS HrS HtD HrD]
  · isplitr; · iexact HIS
    isplitr; · iexact HID
    isplitl [Hsrc]; · iexact Hsrc
    isplitl [Hdst]; · iexact Hdst
    isplitl [Ho]; · iexact Ho
    isplitl [HtS]; · iexact HtS
    isplitr; · iexact HrS
    isplitl [HtD]; · iexact HtD
    iexact HrD
  iintro ⟨Hc, Ho⟩
  iapply Hk
  isplitl [Hc]; · iexact Hc
  iexists W; iexact Ho

/-! ## Waits -/

/-- A wait for the one raise of a round: what the raise handed over is this device's. -/
theorem step_wait (c : Dev nD) {α : Type} {Q : α → sProp 𝕄} {w : TpuEff nD τ sig (Elt F) Λ₀ .tc PUnit} {sm : SemLoc sig} {u : ℕ} {kont : PUnit → Prog (TpuEff nD τ sig (Elt F) Λ₀ .tc) α}
    (hw : ∀ Φ : PUnit → sProp 𝕄, wpE (defs₀ (F := F)) 𝒱₀ (c : Thread nD τ) none Set.univ w Φ = waitSpec (c : Thread nD τ) Set.univ sm u Φ)
    {k : Fin 16} {r i : ℕ} {l : List Raise}
    (hs : sm = csem k) (hu : u = amt k) (hd : dutiesK k r = {0}) (hi : i < NL) (hl : ∀ j ∈ l.map Raise.i, i < j ∧ j < NL) :
    iprop(known m ρ K ∗ owe c l ∗ cred (tallyAt (kcell (c, k)) i (amt k)) ∗ atPos ER (kcell (c, k)) r ∅ 0)
      ⊢ iprop(((owe c l ∗ atPos ER (kcell (c, k)) (r + 1) ∅ 0 ∗ reached ER (kcell (c, k)) (r + 1) ∗ pay m ρ c k r 0) -∗ runs c (kont ⟨⟩) Q) -∗ runs c (.op w kont) Q) := by
  subst hs hu
  unfold owe
  iintro ⟨#HK, Ho, Hc, Ha⟩ Hk
  icases Ho with ⟨%W, Ho⟩
  ihave #HI := (known_inv m ρ K (c, k)) $$ HK
  iapply (Rounds.wp_wait_rest_token 𝒱₀ ER (sched m ρ) (c : Thread nD τ) none (κ := K (c, k)) hw (Set.mem_univ _) i (O := owedL l) (W := W) (R := r) (m := 0) (T := ∅)
      (by rw [Nat.zero_add]; exact (expect_one m ρ (c, k) r hd).symm)) $$ [HI Hc Ho Ha]
  · isplitr; · iexact HI
    isplitl [Hc]; · iexact Hc
    isplitl [Ho]; · iexact Ho
    isplitr; · iapply (known_mayWait m ρ K c (csem k) i l hi hl); iexact HK
    iexact Ha
  iintro ⟨Ho, Ha, Hr, Hp⟩
  ihave Hp := (Entails.of_eq (rest_one m ρ (c, k) r hd)) $$ Hp
  iapply Hk
  isplitl [Ho]; · iexists _; iexact Ho
  isplitl [Ha]; · iexact Ha
  isplitl [Hr]; · iexact Hr
  iexact Hp

/-- The barrier's wait, for six signals. -/
theorem step_wait_bar (c : Dev nD) {α : Type} {Q : α → sProp 𝕄} {w : TpuEff nD τ sig (Elt F) Λ₀ .tc PUnit} {sm : SemLoc sig} {u : ℕ} {kont : PUnit → Prog (TpuEff nD τ sig (Elt F) Λ₀ .tc) α}
    (hw : ∀ Φ : PUnit → sProp 𝕄, wpE (defs₀ (F := F)) 𝒱₀ (c : Thread nD τ) none Set.univ w Φ = waitSpec (c : Thread nD τ) Set.univ sm u Φ)
    {l : List Raise} (hs : sm = csem 0) (hu : u = 6) (hl : ∀ j ∈ l.map Raise.i, 1 < j ∧ j < NL) :
    iprop(known m ρ K ∗ owe c l ∗ cred (tallyAt (kcell (c, 0)) 1 6) ∗ atPos ER (kcell (c, 0)) 0 ∅ 0)
      ⊢ iprop(((owe c l ∗ atPos ER (kcell (c, 0)) 1 ∅ 0 ∗ barPay c 0 ∗ barPay c 1 ∗ barPay c 2 ∗ barPay c 3 ∗ barPay c 4 ∗ barPay c 5) -∗ runs c (kont ⟨⟩) Q)
          -∗ runs c (.op w kont) Q) := by
  subst hs hu
  unfold owe
  iintro ⟨#HK, Ho, Hc, Ha⟩ Hk
  icases Ho with ⟨%W, Ho⟩
  ihave #HI := (known_inv m ρ K (c, 0)) $$ HK
  iapply (Rounds.wp_wait_rest_token 𝒱₀ ER (sched m ρ) (c : Thread nD τ) none (κ := K (c, 0)) hw (Set.mem_univ _) 1 (O := owedL l) (W := W) (R := 0) (m := 0) (T := ∅)
      (by rw [Nat.zero_add]; exact (expect_bar m ρ c).symm)) $$ [HI Hc Ho Ha]
  · isplitr; · iexact HI
    isplitl [Hc]; · iexact Hc
    isplitl [Ho]; · iexact Ho
    isplitr; · iapply (known_mayWait m ρ K c (csem 0) 1 l (by decide) hl); iexact HK
    iexact Ha
  iintro ⟨Ho, Ha, -, Hp⟩
  ihave Hp := (Entails.of_eq (rest_bar m ρ c)) $$ Hp
  iapply Hk
  isplitl [Ho]; · iexists _; iexact Ho
  isplitl [Ha]; · iexact Ha
  iexact Hp

/-- A semaphore whose rounds are over is this device's again, its counter at zero. -/
theorem step_close (c : Dev nD) (k : Fin 16) (R : ℕ) (hR : R = 2 ∨ (R = 1 ∧ ¬(8 ≤ k.val ∧ k.val ≤ 13))) :
    iprop(known m ρ K ∗ atPos ER (kcell (c, k)) R ∅ 0) ⊢ iprop(|={Set.univ}=> semVal (kcell (c, k)) 0) := by
  iintro ⟨#HK, Ha⟩
  ihave #HI := (known_inv m ρ K (c, k)) $$ HK
  iapply (Rounds.cell_close ER (sched m ρ) (Set.mem_univ (K (c, k))) (fun h => h) (R := R) (duties_later m ρ (c, k) R hR))
  isplitr; · iexact HI
  iexact Ha

/-! ## Loads and stores -/

omit [FloatOps F] in
/-- A block held in a slot, told by the rectangle that the loads name. -/
theorem holds_slot3 (c : Dev nD) (M : Memref sig .tc .vmem S3x256x512 .bf16) (i : Fin 3) (q : PosShare TreeShare) (X : Blk F) :
    holds c (slot3 M i) q X
      = iprop(∃ f : Buf (Elt F) ((M.access (rect3 i)).loc (c : Thread nD τ)), ⌜(M.access (rect3 i)).read (Elt F) f = unsq X⌝
          ∗ ((M.access (rect3 i)).loc (c : Thread nD τ) ↦[(M.access (rect3 i)).set]{q} f)) := by
  have hs : (slot3 M i).view.set = (M.access (rect3 i)).set := View.set_reshape _ _
  unfold holds owns
  rw [hs]
  refine congrArg BIBase.exists (funext fun f => ?_)
  have e : ((slot3 M i).view.read (Elt F) f = X) = ((M.access (rect3 i)).read (Elt F) f = unsq X) :=
    propext ⟨fun h => by rw [← h]; exact (unsq_sq _).symm, fun h => by rw [← sq_unsq X, ← h]; rfl⟩
  rw [e]

omit [FloatOps F] in
theorem holds_slot4 (c : Dev nD) (M : Memref sig .tc .vmem S4x256x512 .bf16) (i : Fin 4) (q : PosShare TreeShare) (X : Blk F) :
    holds c (slot4 M i) q X
      = iprop(∃ f : Buf (Elt F) ((M.access (rect4 i)).loc (c : Thread nD τ)), ⌜(M.access (rect4 i)).read (Elt F) f = unsq X⌝
          ∗ ((M.access (rect4 i)).loc (c : Thread nD τ) ↦[(M.access (rect4 i)).set]{q} f)) := by
  have hs : (slot4 M i).view.set = (M.access (rect4 i)).set := View.set_reshape _ _
  unfold holds owns
  rw [hs]
  refine congrArg BIBase.exists (funext fun f => ?_)
  have e : ((slot4 M i).view.read (Elt F) f = X) = ((M.access (rect4 i)).read (Elt F) f = unsq X) :=
    propext ⟨fun h => by rw [← h]; exact (unsq_sq _).symm, fun h => by rw [← sq_unsq X, ← h]; rfl⟩
  rw [e]

/-- A load through a rectangle reads what the rectangle holds. -/
theorem step_load (c : Dev nD) {α : Type} {Q : α → sProp 𝕄} {s : Shape} {e : EltTy} {M : Memref sig .tc .vmem s e} {r : Rect s} {hl : M.view.LoadsAt r.toLoadRect}
    {kont : (r.shape.Idx → Elt F e) → Prog (TpuEff nD τ sig (Elt F) Λ₀ .tc) α} {q : PosShare TreeShare} {X : r.shape.Idx → Elt F e} :
    iprop(∃ f : Buf (Elt F) ((M.access r).loc (c : Thread nD τ)), ⌜(M.access r).read (Elt F) f = X⌝ ∗ ((M.access r).loc (c : Thread nD τ) ↦[(M.access r).set]{q} f))
      ⊢ iprop(((∃ f : Buf (Elt F) ((M.access r).loc (c : Thread nD τ)), ⌜(M.access r).read (Elt F) f = X⌝ ∗ ((M.access r).loc (c : Thread nD τ) ↦[(M.access r).set]{q} f))
          -∗ runs c (kont X) Q) -∗ runs c (.op (.load M r.toLoadRect hl) kont) Q) := by
  iintro ⟨%f, %hf, H⟩ Hk
  subst hf
  iapply (wp_load_rect 𝒱₀ (c : Thread nD τ) none Set.univ (m := M) (r := r) (hl := hl) (f := f) (q := q) (Finset.Subset.refl _)) $$ H
  iintro H
  iapply Hk
  iexists f
  isplitr; · ipureintro; rfl
  iexact H

/-- A store through a rectangle. -/
theorem step_store (c : Dev nD) {α : Type} {Q : α → sProp 𝕄} {s : Shape} {e : EltTy} {M : Memref sig .tc .vmem s e} {r : Rect s} {w : r.shape.Idx → Elt F e}
    {hx : (M.access r).Stores Finset.univ} {hm : (Finset.univ : Finset r.shape.Idx) = Finset.univ ∨ ∀ a, r.stride a = 1}
    {kont : PUnit → Prog (TpuEff nD τ sig (Elt F) Λ₀ .tc) α} :
    iprop(∃ f : Buf (Elt F) ((M.access r).loc (c : Thread nD τ)), ((M.access r).loc (c : Thread nD τ) ↦[(M.access r).set]{fullShare} f))
      ⊢ iprop(((∃ f : Buf (Elt F) ((M.access r).loc (c : Thread nD τ)), ⌜(M.access r).read (Elt F) f = w⌝ ∗ ((M.access r).loc (c : Thread nD τ) ↦[(M.access r).set]{fullShare} f))
          -∗ runs c (kont ⟨⟩) Q) -∗ runs c (.op (.store M r w Finset.univ hx hm) kont) Q) := by
  iintro ⟨%f, H⟩ Hk
  iapply (wp_store 𝒱₀ (c : Thread nD τ) none Set.univ (m := M) (r := r) (Mk := Finset.univ) (hx := hx) (hm := hm) (S := (M.access r).set) (f := f) (Finset.Subset.refl _)) $$ H
  iintro H
  iapply Hk
  iexists _
  isplitr
  · ipureintro
    exact View.read_write_univ (v := M.access r) f w
  iexact H

/-- A load of a slot through the whole buffer reads its block. -/
theorem step_load3 (c : Dev nD) {α : Type} {Q : α → sProp 𝕄} {M : Memref sig .tc .vmem S3x256x512 .bf16} (i : Fin 3) {hl : M.view.LoadsAt (rect3 i).toLoadRect}
    {kont : (S1x256x512.Idx → Elt F .bf16) → Prog (TpuEff nD τ sig (Elt F) Λ₀ .tc) α} {q : PosShare TreeShare} {X : Blk F} :
    holds c (slot3 M i) q X ⊢ iprop((holds c (slot3 M i) q X -∗ runs c (kont (unsq X)) Q) -∗ runs c (.op (.load M (rect3 i).toLoadRect hl) kont) Q) := by
  rw [holds_slot3]
  exact step_load c

theorem step_load4 (c : Dev nD) {α : Type} {Q : α → sProp 𝕄} {M : Memref sig .tc .vmem S4x256x512 .bf16} (i : Fin 4) {hl : M.view.LoadsAt (rect4 i).toLoadRect}
    {kont : (S1x256x512.Idx → Elt F .bf16) → Prog (TpuEff nD τ sig (Elt F) Λ₀ .tc) α} {q : PosShare TreeShare} {X : Blk F} :
    holds c (slot4 M i) q X ⊢ iprop((holds c (slot4 M i) q X -∗ runs c (kont (unsq X)) Q) -∗ runs c (.op (.load M (rect4 i).toLoadRect hl) kont) Q) := by
  rw [holds_slot4]
  exact step_load c

/-- A store through the whole buffer puts a block into a slot. -/
theorem step_store3 (c : Dev nD) {α : Type} {Q : α → sProp 𝕄} {M : Memref sig .tc .vmem S3x256x512 .bf16} (i : Fin 3) {w : S1x256x512.Idx → Elt F .bf16} {hx : (M.access (rect3 i)).Stores Finset.univ}
    {hm : (Finset.univ : Finset (rect3 i).shape.Idx) = Finset.univ ∨ ∀ a, (rect3 i).stride a = 1}
    {kont : PUnit → Prog (TpuEff nD τ sig (Elt F) Λ₀ .tc) α} :
    room c (slot3 M i) ⊢ iprop((holds c (slot3 M i) fullShare (sq w) -∗ runs c (kont ⟨⟩) Q) -∗ runs c (.op (.store M (rect3 i) w Finset.univ hx hm) kont) Q) := by
  have h := step_store (F := F) (Q := Q) (kont := kont) (M := M) (r := rect3 i) (w := w) (hx := hx) (hm := hm) c
  unfold room
  simp only [holds_slot3]
  rw [unsq_sq]
  iintro ⟨%X, %f, -, H⟩
  iapply h
  iexists f; iexact H

theorem step_store4 (c : Dev nD) {α : Type} {Q : α → sProp 𝕄} {M : Memref sig .tc .vmem S4x256x512 .bf16} (i : Fin 4) {w : S1x256x512.Idx → Elt F .bf16} {hx : (M.access (rect4 i)).Stores Finset.univ}
    {hm : (Finset.univ : Finset (rect4 i).shape.Idx) = Finset.univ ∨ ∀ a, (rect4 i).stride a = 1}
    {kont : PUnit → Prog (TpuEff nD τ sig (Elt F) Λ₀ .tc) α} :
    room c (slot4 M i) ⊢ iprop((holds c (slot4 M i) fullShare (sq w) -∗ runs c (kont ⟨⟩) Q) -∗ runs c (.op (.store M (rect4 i) w Finset.univ hx hm) kont) Q) := by
  have h := step_store (F := F) (Q := Q) (kont := kont) (M := M) (r := rect4 i) (w := w) (hx := hx) (hm := hm) c
  unfold room
  simp only [holds_slot4]
  rw [unsq_sq]
  iintro ⟨%X, %f, -, H⟩
  iapply h
  iexists f; iexact H

end Cert.AllReduce

end
-- ==== Proof.Moves.lean ====
/-
  The steps of the kernel on the buffers it names: the staging buffer of the argument, the blocks of the result, the slots of the scratch buffers.
-/
module

public import proofs.«01_k».proof.Proof.Steps

@[expose] public section

set_option backward.proofsInPublic true

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

variable (K : Dev nD × Fin 16 → ℕ)

/-! ## Running a program in parts -/

/-- A program and what follows it: what the first part ends in is what the second starts from. -/
theorem step_part (c : Dev nD) {α β : Type} {P : sProp 𝕄} {Φ : α → sProp 𝕄} {p : Prog (TpuEff nD τ sig (Elt F) Λ₀ .tc) α} {k : α → Prog (TpuEff nD τ sig (Elt F) Λ₀ .tc) β}
    {Q : β → sProp 𝕄} (h : P ⊢ runs c p Φ) : P ⊢ iprop((∀ a, Φ a -∗ runs c (k a) Q) -∗ runs c (p >>= k) Q) := by
  have e : runs c (p >>= k) Q = runs c p (fun a => runs c (k a) Q) := wp_bind _ _ _ p k Q
  rw [e]
  exact h.trans (wp_wand _ _ _)

/-! ## The argument -/

/-- The staging buffer of the argument, holding device `c`'s block. -/
def arg (c : Dev nD) : sProp 𝕄 :=
  iprop(∃ f : Buf (Elt F) ((c : Thread nD τ).loc cc0_stg0_0), ⌜f = xstg m ρ c⌝ ∗ (((c : Thread nD τ).loc cc0_stg0_0) ↦{fullShare} f))

theorem step_arg (c : Dev nD) {α : Type} {Q : α → sProp 𝕄} {r : Rect S1x2048x2048} {hl : xM.view.LoadsAt r.toLoadRect}
    {kont : (r.shape.Idx → Elt F .bf16) → Prog (TpuEff nD τ sig (Elt F) Λ₀ .tc) α} :
    arg m ρ c ⊢ iprop((arg m ρ c -∗ runs c (kont (xM.view.readAt (Elt F) r.toLoadRect (xstg m ρ c))) Q) -∗ runs c (.op (.load xM r.toLoadRect hl) kont) Q) := by
  unfold arg
  iintro ⟨%f, %hf, H⟩ Hk
  subst hf
  iapply (wp_load 𝒱₀ (c : Thread nD τ) none Set.univ (m := xM) (r := r.toLoadRect) (hl := hl) (Finset.subset_univ _)) $$ H
  iintro H
  iapply Hk
  iexists _
  isplitr; · ipureintro; rfl
  iexact H

/-! ## The result -/

theorem inbO (p : Fin 8) : ∀ a, (![256 * p.val, 0] : Fin 2 → Nat) a + S256x512.size a ≤ S2048x512.size a := by revert p; decide

/-- The rows of the result at position `p`. -/
abbrev rectO (p : Fin 8) : Rect S2048x512 := Rect.unit (s := S2048x512) ![256 * p.val, 0] S256x512.size (inbO p)

/-- The block of the result at the position of the device `k` further round the ring, holding `X`; -/
def piece (c : Dev nD) (k : Fin 8) (X : FVec F S256x512 .f32) : sProp 𝕄 :=
  owns (c : Thread nD τ) (oM.slice (rectO (pos (ring k c))) (fun _ => rfl)) fullShare X
/-- holding anything. -/
def spot (c : Dev nD) (k : Fin 8) : sProp 𝕄 := iprop(∃ X : FVec F S256x512 .f32, piece c k X)

/-- A block of the result is written, after a load of it that is not used. -/
theorem step_out (c : Dev nD) (k : Fin 8) {α : Type} {Q : α → sProp 𝕄} {off : Fin 2 → ℕ} {inb : ∀ a, off a + S256x512.size a ≤ S2048x512.size a} {w X : FVec F S256x512 .f32}
    (ho : off = ![256 * (pos (ring k c)).val, 0]) (hX : w = X)
    {hl : oM.view.LoadsAt (Rect.unit (s := S2048x512) off S256x512.size inb).toLoadRect} {hx : (oM.access (Rect.unit (s := S2048x512) off S256x512.size inb)).Stores Finset.univ}
    {hm : (Finset.univ : Finset (Rect.unit (s := S2048x512) off S256x512.size inb).shape.Idx) = Finset.univ ∨ ∀ a, (Rect.unit (s := S2048x512) off S256x512.size inb).stride a = 1}
    {kont : PUnit → Prog (TpuEff nD τ sig (Elt F) Λ₀ .tc) α} :
    spot c k ⊢ iprop((piece c k X -∗ runs c (kont ⟨⟩) Q)
      -∗ runs c (.op (.load oM (Rect.unit (s := S2048x512) off S256x512.size inb).toLoadRect hl)
          fun _ => .op (.store oM (Rect.unit (s := S2048x512) off S256x512.size inb) w Finset.univ hx hm) kont) Q) := by
  subst ho hX
  unfold spot piece owns
  iintro ⟨%X, %f, %hf, H⟩ Hk
  iapply (wp_load_rect 𝒱₀ (c : Thread nD τ) none Set.univ (m := oM) (r := rectO (pos (ring k c))) (f := f) (q := fullShare) (S := (oM.access (rectO (pos (ring k c)))).set) (Finset.Subset.refl _)) $$ H
  iintro H
  iapply (wp_store 𝒱₀ (c : Thread nD τ) none Set.univ (m := oM) (r := rectO (pos (ring k c))) (Mk := Finset.univ) (S := (oM.access (rectO (pos (ring k c)))).set) (f := f) (Finset.Subset.refl _)) $$ H
  iintro H
  iapply Hk
  iexists _
  isplitr
  · ipureintro
    exact View.read_write_univ (v := oM.access (rectO (pos (ring k c)))) f w
  iexact H

/-! ## The slots -/

/-- A slot is written, after a load of it that is not used. -/
theorem step_put3 (c : Dev nD) {α : Type} {Q : α → sProp 𝕄} {M : Memref sig .tc .vmem S3x256x512 .bf16} (i : Fin 3) {w : S1x256x512.Idx → Elt F .bf16} {X : Blk F} (hX : sq w = X)
    {hl : M.view.LoadsAt (rect3 i).toLoadRect} {hx : (M.access (rect3 i)).Stores Finset.univ}
    {hm : (Finset.univ : Finset (rect3 i).shape.Idx) = Finset.univ ∨ ∀ a, (rect3 i).stride a = 1}
    {kont : PUnit → Prog (TpuEff nD τ sig (Elt F) Λ₀ .tc) α} :
    room c (slot3 M i) ⊢ iprop((holds c (slot3 M i) fullShare X -∗ runs c (kont ⟨⟩) Q)
      -∗ runs c (.op (.load M (rect3 i).toLoadRect hl) fun _ => .op (.store M (rect3 i) w Finset.univ hx hm) kont) Q) := by
  subst hX
  iintro ⟨%X, H⟩ Hk
  iapply (step_load3 c i) $$ H
  iintro H
  iapply (step_store3 c i) $$ [H]
  · iexists X; iexact H
  iexact Hk

theorem step_put4 (c : Dev nD) {α : Type} {Q : α → sProp 𝕄} {M : Memref sig .tc .vmem S4x256x512 .bf16} (i : Fin 4) {w : S1x256x512.Idx → Elt F .bf16} {X : Blk F} (hX : sq w = X)
    {hl : M.view.LoadsAt (rect4 i).toLoadRect} {hx : (M.access (rect4 i)).Stores Finset.univ}
    {hm : (Finset.univ : Finset (rect4 i).shape.Idx) = Finset.univ ∨ ∀ a, (rect4 i).stride a = 1}
    {kont : PUnit → Prog (TpuEff nD τ sig (Elt F) Λ₀ .tc) α} :
    room c (slot4 M i) ⊢ iprop((holds c (slot4 M i) fullShare X -∗ runs c (kont ⟨⟩) Q)
      -∗ runs c (.op (.load M (rect4 i).toLoadRect hl) fun _ => .op (.store M (rect4 i) w Finset.univ hx hm) kont) Q) := by
  subst hX
  iintro ⟨%X, H⟩ Hk
  iapply (step_load4 c i) $$ H
  iintro H
  iapply (step_store4 c i) $$ [H]
  · iexists X; iexact H
  iexact Hk

/-- The load of the whole buffer that the block from the opposite device arrives in. -/
theorem step_loadA (c : Dev nD) {α : Type} {Q : α → sProp 𝕄} {hl : apM.view.LoadsAt (Rect.unit (s := S256x512) ![0, 0] S256x512.size inb_S256x512_S256x512_0_0).toLoadRect}
    {kont : (S256x512.Idx → Elt F .bf16) → Prog (TpuEff nD τ sig (Elt F) Λ₀ .tc) α} {q : PosShare TreeShare} {X : Blk F} :
    holds c apM q X ⊢ iprop((holds c apM q X -∗ runs c (kont X) Q)
      -∗ runs c (.op (.load apM (Rect.unit (s := S256x512) ![0, 0] S256x512.size inb_S256x512_S256x512_0_0).toLoadRect hl) kont) Q) := by
  unfold holds owns
  iintro ⟨%f, %hf, H⟩ Hk
  subst hf
  iapply (wp_load 𝒱₀ (c : Thread nD τ) none Set.univ (m := apM) (r := (Rect.unit (s := S256x512) ![0, 0] S256x512.size inb_S256x512_S256x512_0_0).toLoadRect) (hl := hl) (f := f) (q := q)
    (S := apM.view.set) (by rw [Memref.view_whole, View.set_whole]; exact Finset.subset_univ _)) $$ H
  have e : apM.view.readAt (Elt F) (Rect.unit (s := S256x512) ![0, 0] S256x512.size inb_S256x512_S256x512_0_0).toLoadRect f = apM.view.read (Elt F) f :=
    Memref.readAt_unit_zero (Elt F) cc0_scratch4 (off := ![0, 0]) (by funext a; fin_cases a <;> rfl) inb_S256x512_S256x512_0_0 f
  rw [e]
  iintro H
  iapply Hk
  iexists f
  isplitr; · ipureintro; rfl
  iexact H

/-! ## The transfers -/

/-- A transfer of a block between semaphores that are in round 0. -/
theorem step_send0 (c : Dev nD) {α : Type} {Q : α → sProp 𝕄} {n : Dev nD} {src : Memref sig .tc .vmem S256x512 .bf16} {dst : Memref sig (Dev.tc n : Thread nD τ).2.kind .vmem S256x512 .bf16} {sS sD : DmaSem sig}
    {hsc : dst.view.ref.isScScratch = false} {hsrc : src.view.WordExact} {hdst : dst.view.WordExact}
    {hsem : DmaTarget.Typed .vmem (.dma sD) (.remote (Dev.tc n : Thread nD τ) dst (.dma sS) hsc)}
    {kont : PUnit → Prog (TpuEff nD τ sig (Elt F) Λ₀ .tc) α}
    {t : Dev nD} {kS kD : Fin 16} {i : ℕ} {src' dst' : Memref sig .tc .vmem S256x512 .bf16} {q : PosShare TreeShare} {X : Blk F} {l l' : List Raise}
    (hl : l = ⟨t, kD, 0, 0, i⟩ :: l') (hn : n = t) (hS : (SemLoc.dma sS : SemLoc sig) = csem kS) (hD : (SemLoc.dma sD : SemLoc sig) = csem kD)
    (hsrc' : src = src') (hdst' : dst = dst') (hN : dst'.view.dmaCredit = N) (hkS : amt kS = N) (hkD : amt kD = N)
    (hdS : (0 : Fin 6) ∈ dutiesK kS 0) (hdD : (0 : Fin 6) ∈ dutiesK kD 0)
    (hpS : holds c src' q X ⊢ pay m ρ c kS 0 0) (hpD : holds t dst' fullShare X ⊢ pay m ρ t kD 0 0) :
    iprop(known m ρ K ∗ owe c l ∗ holds c src' q X ∗ room t dst' ∗ dutyTok ER (kcell (c, kS)) 0 0 ∗ dutyTok ER (kcell (t, kD)) 0 0)
      ⊢ iprop(((cred (tallyAt (kcell (c, kS)) 2 N) ∗ owe c l') -∗ runs c (kont ⟨⟩) Q)
          -∗ runs c (.op (.enqueueDma src (.remote (Dev.tc n : Thread nD τ) dst (.dma sS) hsc) (.dma sD) hsrc hdst hsem) kont) Q) := by
  iintro ⟨#HK, Ho, Hs, Hd, Ht, Ht'⟩
  ihave #HR := (known_reached m ρ K (c, kS)) $$ HK
  ihave #HR' := (known_reached m ρ K (t, kD)) $$ HK
  iapply (step_send m ρ K c hl hn hS hD hsrc' hdst' hN hkS hkD hdS hdD hpS hpD) $$ [$]

/-! ## The waits for transfers -/

/-- A wait for a transfer of a block. -/
theorem step_land (c : Dev nD) {α : Type} {Q : α → sProp 𝕄} {s : DmaSem sig} {src dst : Memref sig .tc .vmem S256x512 .bf16} {hs : src.view.WordExact} {hd : dst.view.WordExact}
    {kont : PUnit → Prog (TpuEff nD τ sig (Elt F) Λ₀ .tc) α} (k : Fin 16) (r i : ℕ) {l : List Raise} {P : sProp 𝕄} (dst' : Memref sig .tc .vmem S256x512 .bf16)
    (hs' : (SemLoc.dma s : SemLoc sig) = csem k) (hdst : dst = dst') (hN : dst'.view.dmaCredit = N) (hk : amt k = N) (hr : dutiesK k r = {0}) (hP : pay m ρ c k r 0 ⊢ P)
    (hi : i < NL) (hl : ∀ j ∈ l.map Raise.i, i < j ∧ j < NL) :
    iprop(known m ρ K ∗ owe c l ∗ cred (tallyAt (kcell (c, k)) i N) ∗ atPos ER (kcell (c, k)) r ∅ 0)
      ⊢ iprop(((owe c l ∗ atPos ER (kcell (c, k)) (r + 1) ∅ 0 ∗ reached ER (kcell (c, k)) (r + 1) ∗ P) -∗ runs c (kont ⟨⟩) Q)
          -∗ runs c (.op (.waitDma2 s src dst hs hd) kont) Q) := by
  subst hdst
  have h := step_wait m ρ K c (Q := Q) (kont := kont) (w := .waitDma2 s src dst hs hd) (u := dst.view.dmaCredit) (l := l) (r := r) (wpE_waitDma2_eq 𝒱₀ (c : Thread nD τ) none Set.univ) hs' (hN.trans hk.symm) hr hi hl
  rw [hk] at h
  refine h.trans ?_
  iintro H Hk
  iapply H
  iintro ⟨Ho, Ha, Hr, Hp⟩
  iapply Hk
  isplitl [Ho]; · iexact Ho
  isplitl [Ha]; · iexact Ha
  isplitl [Hr]; · iexact Hr
  iapply hP $$ Hp

end Cert.AllReduce

end
-- ==== Proof.Exchange.lean ====
/-
  The first half of the kernel, part by part: the barrier, the exchange along `y`, the sum.
-/
module

public import proofs.«01_k».proof.Proof.Moves

@[expose] public section

set_option backward.proofsInPublic true

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

variable (K : Dev nD × Fin 16 → ℕ)

/-! ## Where the raises lead back to -/

theorem barPay_across (c : Dev nD) : barPay (F := F) (across 1 c) 0 = room c (slot3 yrM 0) ∧ barPay (F := F) (across 2 c) 1 = room c (slot3 yrM 1)
    ∧ barPay (F := F) (across 3 c) 2 = room c (slot3 yrM 2) := by
  refine ⟨?_, ?_, ?_⟩
  · show room (across 3 (across 1 c)) _ = _
    rw [across_across]; exact congrArg (fun d => room d (slot3 yrM 0)) (across_zero c)
  · show room (across 2 (across 2 c)) _ = _
    rw [across_across]; exact congrArg (fun d => room d (slot3 yrM 1)) (across_zero c)
  · show room (across 1 (across 3 c)) _ = _
    rw [across_across]; exact congrArg (fun d => room d (slot3 yrM 2)) (across_zero c)

/-- The slot and the semaphore that the block sent at `h` arrives by. -/
theorem yr_slot (c : Dev nD) (h : Fin 3) (i : Fin 3) (hi : i.val = 2 - h.val) :
    (yrM.slice (Rect.unit (s := S3x256x512) (k0_off3 c (BitVec.ofNat 32 h.val)) S1x256x512.size (k0_off3_inb c h)) (fun _ => rfl)).squeeze S256x512 squeezes_S1x256x512_S256x512 = slot3 yrM i :=
  congrArg (fun M : Memref sig .tc .vmem S1x256x512 .bf16 => M.squeeze S256x512 squeezes_S1x256x512_S256x512)
    (Memref.slice_unit_congr yrM ((off3_eq c h).trans (by rw [hi])) _ _ _ _)
theorem br_sem (c : Dev nD) (h : Fin 3) (i : Fin 3) (hi : i.val = 2 - h.val) :
    ((cc0_scratch8.slice (Rect.unit (s := S3) (k0_off2 c (BitVec.ofNat 32 h.val)) S1.size (k0_off2_inb c h))).squeeze S_ squeezes_S1_S_).sem
      = ((cc0_scratch8.slice (Rect.unit (s := S3) ![i.val] S1.size (by clear hi; revert i; decide))).squeeze S_ squeezes_S1_S_).sem :=
  congrArg (fun M : DmaSems sig S1 => (M.squeeze S_ squeezes_S1_S_).sem)
    (SemArray.slice_unit_congr cc0_scratch8 ((off2_eq c h).trans (by rw [hi])) _ _)

/-- The block that the device `a` columns further along `y` sent arrives where its receiver is `b` columns further from it. -/
theorem ysv_back (c : Dev nD) (a b : Fin 4) (h : Fin 3) (e : a + b = 0) : ysv m ρ (across b (across a c)) h = ysv m ρ c h := by
  rw [across_across, e, across_zero]

/-- A block held at full share is held at the two halves of it, -/
theorem halve (c : Dev nD) (M : Memref sig .tc .vmem S256x512 .bf16) (X : Blk F) : holds c M fullShare X ⊢ iprop(holds c M lsh X ∗ holds c M rsh X) :=
  (owns_halves (Ix := ℕ) (Name := ℕ) (U := UU) (Lvl := ℕ) (Val := Elt F) (c : Thread nD τ) M fullShare X).1
/-- and back. -/
theorem unhalve (c : Dev nD) (M : Memref sig .tc .vmem S256x512 .bf16) (X : Blk F) : iprop(holds c M lsh X ∗ holds c M rsh X) ⊢ holds c M fullShare X :=
  (owns_halves (Ix := ℕ) (Name := ℕ) (U := UU) (Lvl := ℕ) (Val := Elt F) (c : Thread nD τ) M fullShare X).2

theorem ring_one_seven (c : Dev nD) : ring 1 (ring 7 c) = c := (ring_ring 1 7 c).trans (ring_zero c)
theorem ring_seven_one (c : Dev nD) : ring 7 (ring 1 c) = c := (ring_ring 7 1 c).trans (ring_zero c)
theorem ring_four_four (c : Dev nD) : ring 4 (ring 4 c) = c := (ring_ring 4 4 c).trans (ring_zero c)

/-! ## Parts -/

variable {h0 : xM.IsWhole} {h1 : oM.IsWhole} {h2 : ysM.IsWhole} {h3 : yrM.IsWhole} {h4 : fwM.IsWhole} {h5 : bwM.IsWhole} {h6 : apM.IsWhole}

/-- The kernel reads which device it runs on. -/
theorem part1_run (c : Dev nD) : (iprop(emp) : sProp 𝕄) ⊢ runs c
    (k0_part1 (F := F) xM h0 oM h1 ysM h2 yrM h3 fwM h4 bwM h5 apM h6 cc0_scratch5 cc0_scratch6 cc0_scratch7 cc0_scratch8 cc0_scratch9 cc0_scratch10 cc0_scoped0)
    (fun w => iprop(⌜w.1 = c⌝)) := by
  rw [k0_part1_eq_skeleton]; unfold k0_part1_skel
  simp only [Prog.lift, Prog.bind_op, Prog.bind_ret, Prog.pure_eq_ret]
  iintro -
  simp only [wp_deviceId, wp_ret]
  imodintro
  ipureintro; trivial

theorem part2_run (c : Dev nD) {w1 w2 w3 w4 w5 : BitVec 32} :
    iprop(known m ρ K ∗ owe c (left c 0) ∗ dutyTok ER (kcell (across 1 c, 0)) 0 0 ∗ dutyTok ER (kcell (across 2 c, 0)) 0 1 ∗ dutyTok ER (kcell (across 3 c, 0)) 0 2
        ∗ room c (slot3 yrM 0) ∗ room c (slot3 yrM 1) ∗ room c (slot3 yrM 2))
      ⊢ runs c (k0_part2 (F := F) xM h0 oM h1 ysM h2 yrM h3 fwM h4 bwM h5 apM h6 cc0_scratch5 cc0_scratch6 cc0_scratch7 cc0_scratch8 cc0_scratch9 cc0_scratch10 cc0_scoped0 c w1 w2 w3 w4 w5)
        (fun w => iprop(⌜w.2.2.1 = SemArray.scalar (sig.barrier 0 rfl)⌝ ∗ owe c (left c 3))) := by
  rw [k0_part2_eq_skeleton]; unfold k0_part2_skel
  simp only [semSignalWord, Prog.lift, Prog.bind_op, Prog.bind_ret, Prog.pure_eq_ret]
  obtain ⟨e0, e1, e2⟩ := barPay_across (F := F) c
  iintro ⟨#HK, Ho, Ht1, Ht2, Ht3, H1, H2, H3⟩
  iapply (step_signal m ρ K c (k := 0) (d := 0) (l := left c 0) (l' := left c 1) rfl (dev1_eq c) rfl rfl (by decide) (.of_eq e0.symm)) $$ [$]
  iintro Ho
  iapply (step_signal m ρ K c (k := 0) (d := 1) (l := left c 1) (l' := left c 2) rfl (dev2_eq c) rfl rfl (by decide) (.of_eq e1.symm)) $$ [$]
  iintro Ho
  iapply (step_signal m ρ K c (k := 0) (d := 2) (l := left c 2) (l' := left c 3) rfl (dev3_eq c) rfl rfl (by decide) (.of_eq e2.symm)) $$ [$]
  iintro Ho
  simp only [wp_ret]
  imodintro
  isplitr; · ipureintro; trivial
  iexact Ho

theorem part3_run (c : Dev nD) {w1 w2 w3 w4 w5 w6 w7 w8 w9 : BitVec 32} :
    iprop(known m ρ K ∗ owe c (left c 3) ∗ dutyTok ER (kcell (ring 7 c, 0)) 0 3 ∗ dutyTok ER (kcell (ring 1 c, 0)) 0 4 ∗ dutyTok ER (kcell (ring 4 c, 0)) 0 5
        ∗ room c (slot4 fwM 1) ∗ room c (slot4 fwM 2) ∗ room c (slot4 fwM 3) ∗ room c (slot4 bwM 1) ∗ room c (slot4 bwM 2) ∗ room c (slot4 bwM 3) ∗ room c apM
        ∗ arg m ρ c ∗ room c (slot3 ysM 0))
      ⊢ runs c (k0_part3 (F := F) xM h0 oM h1 ysM h2 yrM h3 fwM h4 bwM h5 apM h6 cc0_scratch5 cc0_scratch6 cc0_scratch7 cc0_scratch8 cc0_scratch9 cc0_scratch10 cc0_scoped0 c w1 w2 w3 w4 w5 w6 w7 w8 (SemArray.scalar (sig.barrier 0 rfl)) w9)
        (fun _ => iprop(owe c (left c 6) ∗ arg m ρ c ∗ holds c (slot3 ysM 0) fullShare (ysv m ρ c 0))) := by
  rw [k0_part3_eq_skeleton]; unfold k0_part3_skel
  simp only [semSignalWord, Prog.lift, Prog.bind_op, Prog.bind_ret, Prog.pure_eq_ret]
  have p3 : iprop(room c (slot4 fwM 1) ∗ room c (slot4 fwM 2) ∗ room c (slot4 fwM 3)) ⊢ pay m ρ (ring 7 c) 0 0 3 :=
    .of_eq (congrArg (fun d => iprop(room (F := F) d (slot4 fwM 1) ∗ room d (slot4 fwM 2) ∗ room d (slot4 fwM 3))) (ring_one_seven c).symm)
  have p4 : iprop(room c (slot4 bwM 1) ∗ room c (slot4 bwM 2) ∗ room c (slot4 bwM 3)) ⊢ pay m ρ (ring 1 c) 0 0 4 :=
    .of_eq (congrArg (fun d => iprop(room (F := F) d (slot4 bwM 1) ∗ room d (slot4 bwM 2) ∗ room d (slot4 bwM 3))) (ring_seven_one c).symm)
  have p5 : room c apM ⊢ pay m ρ (ring 4 c) 0 0 5 := .of_eq (congrArg (fun d => room (F := F) d apM) (ring_four_four c).symm)
  iintro ⟨#HK, Ho, Ht1, Ht2, Ht3, Hf1, Hf2, Hf3, Hb1, Hb2, Hb3, Ha, Hx, Hy⟩
  iapply (step_signal m ρ K c (k := 0) (d := 3) (l := left c 3) (l' := left c 4) rfl (dev4_eq c) rfl rfl (by decide) p3) $$ [$]
  iintro Ho
  iapply (step_signal m ρ K c (k := 0) (d := 4) (l := left c 4) (l' := left c 5) rfl (dev5_eq c) rfl rfl (by decide) p4) $$ [$]
  iintro Ho
  iapply (step_signal m ρ K c (k := 0) (d := 5) (l := left c 5) (l' := left c 6) rfl (dev6_eq c) rfl rfl (by decide) p5) $$ [$]
  iintro Ho
  iapply (step_arg m ρ c) $$ [$]
  iintro Hx
  iapply (step_put3 c 0 (X := ysv m ρ c 0) rfl) $$ [$]
  iintro Hy
  simp only [wp_ret]
  imodintro
  iframe

theorem part4_run (c : Dev nD) {w1 w2 w3 w4 : BitVec 32} :
    iprop(known m ρ K ∗ owe c (left c 6) ∗ cred (tallyAt (kcell (c, 0)) 1 6) ∗ atPos ER (kcell (c, 0)) 0 ∅ 0
        ∗ arg m ρ c ∗ room c (slot3 ysM 1) ∗ room c (slot3 ysM 2))
      ⊢ runs c (k0_part4 (F := F) xM h0 oM h1 ysM h2 yrM h3 fwM h4 bwM h5 apM h6 cc0_scratch5 cc0_scratch6 cc0_scratch7 cc0_scratch8 cc0_scratch9 cc0_scratch10 cc0_scoped0 c w1 w2 w3 (SemArray.scalar (sig.barrier 0 rfl)) w4)
        (fun _ => iprop(owe c (left c 6) ∗ arg m ρ c ∗ holds c (slot3 ysM 1) fullShare (ysv m ρ c 1) ∗ holds c (slot3 ysM 2) fullShare (ysv m ρ c 2)
          ∗ atPos ER (kcell (c, 0)) 1 ∅ 0 ∗ barPay c 0 ∗ barPay c 1 ∗ barPay c 2 ∗ barPay c 3 ∗ barPay c 4 ∗ barPay c 5)) := by
  rw [k0_part4_eq_skeleton]; unfold k0_part4_skel
  simp only [semWaitWord, Prog.lift, Prog.bind_op, Prog.bind_ret, Prog.pure_eq_ret]
  iintro ⟨#HK, Ho, Hc, Hat, Hx, H1, H2⟩
  iapply (step_arg m ρ c) $$ [$]
  iintro Hx
  iapply (step_put3 c 1 (X := ysv m ρ c 1) rfl) $$ [$]
  iintro H1
  iapply (step_arg m ρ c) $$ [$]
  iintro Hx
  iapply (step_put3 c 2 (X := ysv m ρ c 2) rfl) $$ [$]
  iintro H2
  iapply (step_wait_bar m ρ K c (wpE_semWait_eq 𝒱₀ (c : Thread nD τ) none Set.univ) (l := left c 6) rfl rfl (above c 6 (by decide))) $$ [$]
  iintro ⟨Ho, Hat, Hb0, Hb1, Hb2, Hb3, Hb4, Hb5⟩
  simp only [wp_ret]
  imodintro
  iframe

theorem part5_run (c : Dev nD) {w1 w2 w3 w4 w5 : BitVec 32} :
    iprop(known m ρ K ∗ owe c (left c 6) ∗ holds c (slot3 ysM 0) fullShare (ysv m ρ c 0) ∗ holds c (slot3 ysM 1) fullShare (ysv m ρ c 1) ∗ room (across 1 c) (slot3 yrM 2) ∗ room (across 2 c) (slot3 yrM 1)
        ∗ dutyTok ER (kcell (c, 8)) 0 0 ∗ dutyTok ER (kcell (across 1 c, 13)) 0 0 ∗ dutyTok ER (kcell (c, 9)) 0 0 ∗ dutyTok ER (kcell (across 2 c, 12)) 0 0)
      ⊢ runs c (k0_part5 (F := F) xM h0 oM h1 ysM h2 yrM h3 fwM h4 bwM h5 apM h6 cc0_scratch5 cc0_scratch6 cc0_scratch7 cc0_scratch8 cc0_scratch9 cc0_scratch10 cc0_scoped0 c w1 w2 w3 w4 w5)
        (fun _ => iprop(owe c (left c 8) ∗ cred (tallyAt (kcell (c, 8)) 2 N) ∗ cred (tallyAt (kcell (c, 9)) 2 N))) := by
  rw [k0_part5_eq_skeleton]; unfold k0_part5_skel
  simp only [Prog.lift, Prog.bind_op, Prog.bind_ret, Prog.pure_eq_ret]
  iintro ⟨#HK, Ho, H0, H1, Hr2, Hr1, Ht8, Ht13, Ht9, Ht12⟩
  iapply (step_send0 m ρ K c (kS := 8) (kD := 13) (src' := slot3 ysM 0) (dst' := slot3 yrM 2) (q := fullShare) (X := ysv m ρ c 0) (l := left c 6) (l' := left c 7)
    rfl (dev7_eq c) rfl (congrArg SemLoc.dma (br_sem c 0 2 rfl)) rfl (yr_slot c 0 2 rfl) rfl rfl rfl (by decide) (by decide) .rfl
    (.of_eq (congrArg (holds (across 1 c) (slot3 yrM 2) fullShare) (ysv_back m ρ c 1 3 0 rfl).symm))) $$ [$]
  iintro ⟨Hc8, Ho⟩
  iapply (step_send0 m ρ K c (kS := 9) (kD := 12) (src' := slot3 ysM 1) (dst' := slot3 yrM 1) (q := fullShare) (X := ysv m ρ c 1) (l := left c 7) (l' := left c 8)
    rfl (dev8_eq c) rfl (congrArg SemLoc.dma (br_sem c 1 1 rfl)) rfl (yr_slot c 1 1 rfl) rfl rfl rfl (by decide) (by decide) .rfl
    (.of_eq (congrArg (holds (across 2 c) (slot3 yrM 1) fullShare) (ysv_back m ρ c 2 2 1 rfl).symm))) $$ [$]
  iintro ⟨Hc9, Ho⟩
  simp only [wp_ret]
  imodintro
  iframe

theorem part6_run (c : Dev nD) {w1 w2 w3 w4 w5 : BitVec 32} :
    iprop(known m ρ K ∗ owe c (left c 8) ∗ holds c (slot3 ysM 2) fullShare (ysv m ρ c 2) ∗ room (across 3 c) (slot3 yrM 0)
        ∗ dutyTok ER (kcell (c, 10)) 0 0 ∗ dutyTok ER (kcell (across 3 c, 11)) 0 0 ∗ arg m ρ c)
      ⊢ runs c (k0_part6 (F := F) xM h0 oM h1 ysM h2 yrM h3 fwM h4 bwM h5 apM h6 cc0_scratch5 cc0_scratch6 cc0_scratch7 cc0_scratch8 cc0_scratch9 cc0_scratch10 cc0_scoped0 c w1 w2 w3 w4 w5)
        (fun v => iprop(⌜v = k0_pay4 (mine m ρ c)⌝ ∗ owe c (left c 9) ∗ cred (tallyAt (kcell (c, 10)) 2 N) ∗ arg m ρ c)) := by
  rw [k0_part6_eq_skeleton]; unfold k0_part6_skel
  simp only [Prog.lift, Prog.bind_op, Prog.bind_ret, Prog.pure_eq_ret]
  iintro ⟨#HK, Ho, H2, Hr0, Ht10, Ht11, Hx⟩
  iapply (step_send0 m ρ K c (kS := 10) (kD := 11) (src' := slot3 ysM 2) (dst' := slot3 yrM 0) (q := fullShare) (X := ysv m ρ c 2) (l := left c 8) (l' := left c 9)
    rfl (dev9_eq c) rfl (congrArg SemLoc.dma (br_sem c 2 0 rfl)) rfl (yr_slot c 2 0 rfl) rfl rfl rfl (by decide) (by decide) .rfl
    (.of_eq (congrArg (holds (across 3 c) (slot3 yrM 0) fullShare) (ysv_back m ρ c 3 1 2 rfl).symm))) $$ [$]
  iintro ⟨Hc, Ho⟩
  iapply (step_arg m ρ c) $$ [$]
  iintro Hx
  simp only [wp_ret]
  imodintro
  isplitr; · ipureintro; trivial
  iframe

theorem part7_run (c : Dev nD) {w1 w2 w3 : BitVec 32} {v : FVec F S256x512 .bf16} :
    iprop(known m ρ K ∗ owe c (left c 9) ∗ cred (tallyAt (kcell (c, 11)) 2 N) ∗ cred (tallyAt (kcell (c, 12)) 2 N)
        ∗ atPos ER (kcell (c, 11)) 0 ∅ 0 ∗ atPos ER (kcell (c, 12)) 0 ∅ 0)
      ⊢ runs c (k0_part7 (F := F) xM h0 oM h1 ysM h2 yrM h3 fwM h4 bwM h5 apM h6 cc0_scratch5 cc0_scratch6 cc0_scratch7 cc0_scratch8 cc0_scratch9 cc0_scratch10 cc0_scoped0 w1 w2 w3 v)
        (fun w => iprop(⌜w.1 = k0_pay5 v (unsq (ysv m ρ (across 1 c) 2)) (unsq (ysv m ρ (across 2 c) 1))⌝ ∗ owe c (left c 9)
          ∗ holds c (slot3 yrM 0) fullShare (ysv m ρ (across 1 c) 2) ∗ holds c (slot3 yrM 1) fullShare (ysv m ρ (across 2 c) 1)
          ∗ atPos ER (kcell (c, 11)) 1 ∅ 0 ∗ reached ER (kcell (c, 11)) 1 ∗ atPos ER (kcell (c, 12)) 1 ∅ 0 ∗ reached ER (kcell (c, 12)) 1)) := by
  rw [k0_part7_eq_skeleton]; unfold k0_part7_skel
  simp only [Prog.lift, Prog.bind_op, Prog.bind_ret, Prog.pure_eq_ret]
  iintro ⟨#HK, Ho, Hc1, Hc2, Ha1, Ha2⟩
  iapply (step_land m ρ K c 11 0 2 (P := holds c (slot3 yrM 0) fullShare (ysv m ρ (across 1 c) 2)) (slot3 yrM 0) rfl rfl rfl rfl rfl .rfl (by decide) (above c 9 (by decide))) $$ [$]
  iintro ⟨Ho, Ha1, Hr1, H1⟩
  iapply (step_load3 c 0) $$ [$]
  iintro H1
  iapply (step_land m ρ K c 12 0 2 (P := holds c (slot3 yrM 1) fullShare (ysv m ρ (across 2 c) 1)) (slot3 yrM 1) rfl rfl rfl rfl rfl .rfl (by decide) (above c 9 (by decide))) $$ [$]
  iintro ⟨Ho, Ha2, Hr2, H2⟩
  iapply (step_load3 c 1) $$ [$]
  iintro H2
  simp only [wp_ret]
  imodintro
  isplitr; · ipureintro; trivial
  iframe

theorem part8_run (c : Dev nD) {w1 w2 w3 w4 : BitVec 32} {v : FVec F S256x512 .f32} :
    iprop(known m ρ K ∗ owe c (left c 9) ∗ cred (tallyAt (kcell (c, 13)) 2 N) ∗ cred (tallyAt (kcell (c, 8)) 2 N) ∗ cred (tallyAt (kcell (c, 9)) 2 N)
        ∗ atPos ER (kcell (c, 13)) 0 ∅ 0 ∗ atPos ER (kcell (c, 8)) 0 ∅ 0 ∗ atPos ER (kcell (c, 9)) 0 ∅ 0)
      ⊢ runs c (k0_part8 (F := F) xM h0 oM h1 ysM h2 yrM h3 fwM h4 bwM h5 apM h6 cc0_scratch5 cc0_scratch6 cc0_scratch7 cc0_scratch8 cc0_scratch9 cc0_scratch10 cc0_scoped0 c w1 w2 v w3 w4)
        (fun w => iprop(⌜w = k0_pay6 v (unsq (ysv m ρ (across 3 c) 0))⌝ ∗ owe c (left c 9)
          ∗ holds c (slot3 yrM 2) fullShare (ysv m ρ (across 3 c) 0) ∗ holds c (slot3 ysM 0) fullShare (ysv m ρ c 0) ∗ holds c (slot3 ysM 1) fullShare (ysv m ρ c 1)
          ∗ atPos ER (kcell (c, 13)) 1 ∅ 0 ∗ reached ER (kcell (c, 13)) 1 ∗ atPos ER (kcell (c, 8)) 1 ∅ 0 ∗ reached ER (kcell (c, 8)) 1
          ∗ atPos ER (kcell (c, 9)) 1 ∅ 0 ∗ reached ER (kcell (c, 9)) 1)) := by
  rw [k0_part8_eq_skeleton]; unfold k0_part8_skel
  simp only [Prog.lift, Prog.bind_op, Prog.bind_ret, Prog.pure_eq_ret]
  iintro ⟨#HK, Ho, Hc1, Hc2, Hc3, Ha1, Ha2, Ha3⟩
  iapply (step_land m ρ K c 13 0 2 (P := holds c (slot3 yrM 2) fullShare (ysv m ρ (across 3 c) 0)) (slot3 yrM 2) rfl rfl rfl rfl rfl .rfl (by decide) (above c 9 (by decide))) $$ [$]
  iintro ⟨Ho, Ha1, Hr1, H1⟩
  iapply (step_load3 c 2) $$ [$]
  iintro H1
  iapply (step_land m ρ K c 8 0 2 (P := holds c (slot3 ysM 0) fullShare (ysv m ρ c 0)) (slot3 ysM 0) rfl rfl rfl rfl rfl .rfl (by decide) (above c 9 (by decide))) $$ [$]
  iintro ⟨Ho, Ha2, Hr2, H2⟩
  iapply (step_land m ρ K c 9 0 2 (P := holds c (slot3 ysM 1) fullShare (ysv m ρ c 1)) (slot3 ysM 1) rfl rfl rfl rfl rfl .rfl (by decide) (above c 9 (by decide))) $$ [$]
  iintro ⟨Ho, Ha3, Hr3, H3⟩
  simp only [wp_ret]
  imodintro
  isplitr; · ipureintro; trivial
  iframe

/-- Between the two exchanges: the sum goes into the first slot of either direction, and half of the forward one is sent on. -/
theorem part9_run (c : Dev nD) {w1 w2 w3 w4 w5 : BitVec 32} :
    iprop(known m ρ K ∗ owe c (left c 9) ∗ cred (tallyAt (kcell (c, 10)) 2 N) ∗ atPos ER (kcell (c, 10)) 0 ∅ 0
        ∗ room c (slot4 fwM 0) ∗ room c (slot4 bwM 0) ∗ room (ring 1 c) (slot4 fwM 1) ∗ dutyTok ER (kcell (c, 2)) 0 0 ∗ dutyTok ER (kcell (ring 1 c, 5)) 0 0)
      ⊢ runs c (k0_part9 (F := F) xM h0 oM h1 ysM h2 yrM h3 fwM h4 bwM h5 apM h6 cc0_scratch5 cc0_scratch6 cc0_scratch7 cc0_scratch8 cc0_scratch9 cc0_scratch10 cc0_scoped0 c w1 w2 w3 w4 w5 (acc m ρ c))
        (fun _ => iprop(owe c (left c 10) ∗ holds c (slot3 ysM 2) fullShare (ysv m ρ c 2) ∗ atPos ER (kcell (c, 10)) 1 ∅ 0 ∗ reached ER (kcell (c, 10)) 1
          ∗ holds c (slot4 fwM 0) rsh (own m ρ c) ∗ holds c (slot4 bwM 0) fullShare (own m ρ c) ∗ cred (tallyAt (kcell (c, 2)) 2 N))) := by
  rw [k0_part9_eq_skeleton]; unfold k0_part9_skel
  simp only [Prog.lift, Prog.bind_op, Prog.bind_ret, Prog.pure_eq_ret]
  have p5 : holds (ring 1 c) (slot4 fwM 1) fullShare (own m ρ c) ⊢ pay m ρ (ring 1 c) 5 0 0 :=
    .of_eq (congrArg (fun d => holds (ring 1 c) (slot4 fwM 1) fullShare (own m ρ d)) (ring_seven_one c).symm)
  iintro ⟨#HK, Ho, Hc, Ha, Hf, Hb, Hr, Ht2, Ht5⟩
  iapply (step_land m ρ K c 10 0 2 (P := holds c (slot3 ysM 2) fullShare (ysv m ρ c 2)) (slot3 ysM 2) rfl rfl rfl rfl rfl .rfl (by decide) (above c 9 (by decide))) $$ [$]
  iintro ⟨Ho, Ha, Hr1, H1⟩
  iapply (step_put4 c (M := fwM) 0 (X := own m ρ c) rfl) $$ [$]
  iintro Hf
  iapply (step_put4 c (M := bwM) 0 (X := own m ρ c) rfl) $$ [$]
  iintro Hb
  ihave Hf := (halve c (slot4 fwM 0) (own m ρ c)) $$ Hf
  icases Hf with ⟨Hfl, Hfr⟩
  iapply (step_send0 m ρ K c (t := ring 1 c) (kS := 2) (kD := 5) (src' := slot4 fwM 0) (dst' := slot4 fwM 1) (q := lsh) (X := own m ρ c) (l := left c 9) (l' := left c 10)
    rfl (dev10_eq c) rfl rfl rfl rfl rfl rfl rfl (by decide) (by decide) .rfl p5) $$ [$]
  iintro ⟨Hc, Ho⟩
  simp only [wp_ret]
  imodintro
  iframe

end Cert.AllReduce

end
-- ==== Proof.Ring.lean ====
/-
  The second half of the kernel, part by part: the sums go round the ring, in both directions and half way across.
-/
module

public import proofs.«01_k».proof.Proof.Exchange

@[expose] public section

set_option backward.proofsInPublic true

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

variable (K : Dev nD × Fin 16 → ℕ)

/-- Taking steps round the ring one after another, for the sums; -/
theorem own_ring (c : Dev nD) (a b e : Fin 8) (h : b + a = e) : own m ρ (ring a (ring b c)) = own m ρ (ring e c) := by rw [ring_ring, h]
/-- and a block that a device holds, named in two ways. -/
theorem holds_ring (c d : Dev nD) (M : Memref sig .tc .vmem S256x512 .bf16) (a b e : Fin 8) (h : b + a = e) :
    holds d M fullShare (own m ρ (ring e c)) ⊢ holds d M fullShare (own m ρ (ring a (ring b c))) := .of_eq (by rw [own_ring m ρ c a b e h])

/-- A device's own rows of the result. -/
theorem off5_eq0 (c : Dev nD) : k0_off5 c = ![256 * (pos (ring 0 c)).val, 0] := by rw [ring_zero]; exact off5_eq c

/-- A block that is read from a slot and widened. -/
theorem wide_unsq (X : Blk F) : k0_pay10 (unsq X) = k0_pay16 X := congrArg k0_pay16 (sq_unsq X)

variable {h0 : xM.IsWhole} {h1 : oM.IsWhole} {h2 : ysM.IsWhole} {h3 : yrM.IsWhole} {h4 : fwM.IsWhole} {h5 : bwM.IsWhole} {h6 : apM.IsWhole}

/-- The other half of the forward block goes to the opposite device; once the device after says that its arrival semaphores are free, the backward block goes. -/
theorem part10_run (c : Dev nD) {w1 w2 w3 w4 w5 w6 : BitVec 32} :
    iprop(known m ρ K ∗ owe c (left c 10) ∗ holds c (slot4 fwM 0) rsh (own m ρ c) ∗ room (ring 4 c) apM ∗ dutyTok ER (kcell (c, 14)) 0 0
        ∗ dutyTok ER (kcell (ring 4 c, 15)) 0 0 ∗ dutyTok ER (kcell (ring 1 c, 1)) 0 0 ∗ reached ER (kcell (c, 11)) 1 ∗ reached ER (kcell (c, 12)) 1
        ∗ reached ER (kcell (c, 13)) 1 ∗ cred (tallyAt (kcell (c, 1)) 3 (amt 1)) ∗ atPos ER (kcell (c, 1)) 0 ∅ 0 ∗ holds c (slot4 bwM 0) fullShare (own m ρ c)
        ∗ room (ring 7 c) (slot4 bwM 1) ∗ reached ER (kcell (c, 8)) 1 ∗ dutyTok ER (kcell (c, 8)) 1 0 ∗ dutyTok ER (kcell (ring 7 c, 11)) 1 0 ∗ spot c 0)
      ⊢ runs c (k0_part10 (F := F) xM h0 oM h1 ysM h2 yrM h3 fwM h4 bwM h5 apM h6 cc0_scratch5 cc0_scratch6 cc0_scratch7 cc0_scratch8 cc0_scratch9 cc0_scratch10 cc0_scoped0 c w1 w2 w3 w4 w5 w6 (acc m ρ c))
        (fun w => iprop(owe c (left c 13) ∗ cred (tallyAt (kcell (c, 14)) 2 N) ∗ atPos ER (kcell (c, 1)) 1 ∅ 0 ∗ reached ER (kcell (ring 7 c, 12)) 1
          ∗ reached ER (kcell (ring 7 c, 13)) 1 ∗ cred (tallyAt (kcell (c, 8)) 2 N) ∗ holds c (slot4 bwM 0) rsh (own m ρ c) ∗ piece c 0 (acc m ρ c))) := by
  rw [k0_part10_eq_skeleton]; unfold k0_part10_skel
  simp only [semSignalWord, semWaitWord, Prog.lift, Prog.bind_op, Prog.bind_ret, Prog.pure_eq_ret]
  have pA : holds (ring 4 c) apM fullShare (own m ρ c) ⊢ pay m ρ (ring 4 c) 15 0 0 :=
    .of_eq (congrArg (fun d => holds (ring 4 c) apM fullShare (own m ρ d)) (ring_four_four c).symm)
  have pM : iprop(reached ER (kcell (c, 11)) 1 ∗ reached ER (kcell (c, 12)) 1 ∗ reached ER (kcell (c, 13)) 1) ⊢ pay m ρ (ring 1 c) 1 0 0 :=
    .of_eq (congrArg (fun d => (iprop(reached ER (kcell (d, 11)) 1 ∗ reached ER (kcell (d, 12)) 1 ∗ reached ER (kcell (d, 13)) 1) : sProp 𝕄)) (ring_seven_one c).symm)
  have pM' : pay m ρ c 1 0 0 ⊢ iprop(reached ER (kcell (ring 7 c, 11)) 1 ∗ reached ER (kcell (ring 7 c, 12)) 1 ∗ reached ER (kcell (ring 7 c, 13)) 1) := .rfl
  have pB : holds (ring 7 c) (slot4 bwM 1) fullShare (own m ρ c) ⊢ pay m ρ (ring 7 c) 11 1 0 :=
    .of_eq (congrArg (fun d => holds (ring 7 c) (slot4 bwM 1) fullShare (own m ρ d)) (ring_one_seven c).symm)
  iintro ⟨#HK, Ho, Hf, Ha, Ht14, Ht15, Ht1, #R11, #R12, #R13, Hc1, Hp1, Hb, Hr, #R8, Ht8, Ht11, Hs⟩
  iapply (step_send0 m ρ K c (t := ring 4 c) (kS := 14) (kD := 15) (src' := slot4 fwM 0) (dst' := apM) (q := rsh) (X := own m ρ c) (l := left c 10) (l' := left c 11)
    rfl (dev11_eq c) rfl rfl rfl rfl rfl rfl rfl (by decide) (by decide) .rfl pA) $$ [$]
  iintro ⟨Hc14, Ho⟩
  iapply (step_signal m ρ K c (t := ring 1 c) (k := 1) (d := 0) (l := left c 11) (l' := left c 12) rfl (dev12_eq c) rfl rfl (by decide) pM) $$ [$]
  iintro Ho
  iapply (step_wait m ρ K c (k := 1) (r := 0) (i := 3) (l := left c 12) (wpE_semWait_eq 𝒱₀ (c : Thread nD τ) none Set.univ) rfl rfl rfl (by decide) (above c 12 (by decide))) $$ [$]
  iintro ⟨Ho, Hp1, _, Hm⟩
  ihave Hm := pM' $$ Hm
  icases Hm with ⟨#M11, #M12, #M13⟩
  ihave Hb := (halve c (slot4 bwM 0) (own m ρ c)) $$ Hb
  icases Hb with ⟨Hbl, Hbr⟩
  iapply (step_send m ρ K c (t := ring 7 c) (kS := 8) (kD := 11) (rS := 1) (rD := 1) (i := 5) (src' := slot4 bwM 0) (dst' := slot4 bwM 1) (q := lsh) (X := own m ρ c) (l := left c 12) (l' := left c 13)
    rfl (dev13_eq c) rfl rfl rfl rfl rfl rfl rfl (by decide) (by decide) .rfl pB) $$ [$]
  iintro ⟨Hc8, Ho⟩
  iapply (step_out c 0 (X := acc m ρ c) (off5_eq0 c) rfl) $$ [$]
  iintro Hs
  simp only [wp_ret]
  imodintro
  iframe
  isplitr; · iexact M12
  iexact M13

theorem part11_run (c : Dev nD) {w1 w2 w3 w4 w5 w6 w7 : BitVec 32} :
    iprop(known m ρ K ∗ owe c (left c 13) ∗ cred (tallyAt (kcell (c, 5)) 4 N) ∗ atPos ER (kcell (c, 5)) 0 ∅ 0 ∗ dutyTok ER (kcell (c, 3)) 0 0
        ∗ room (ring 1 c) (slot4 fwM 2) ∗ dutyTok ER (kcell (ring 1 c, 6)) 0 0)
      ⊢ runs c (k0_part11 (F := F) xM h0 oM h1 ysM h2 yrM h3 fwM h4 bwM h5 apM h6 cc0_scratch5 cc0_scratch6 cc0_scratch7 cc0_scratch8 cc0_scratch9 cc0_scratch10 cc0_scoped0 c w1 w2 w3 w4 w5 w6 w7)
        (fun w => iprop(owe c (left c 14) ∗ atPos ER (kcell (c, 5)) 1 ∅ 0 ∗ holds c (slot4 fwM 1) rsh (own m ρ (ring 7 c)) ∗ cred (tallyAt (kcell (c, 3)) 2 N))) := by
  rw [k0_part11_eq_skeleton]; unfold k0_part11_skel
  simp only [semSignalWord, semWaitWord, Prog.lift, Prog.bind_op, Prog.bind_ret, Prog.pure_eq_ret]
  iintro ⟨#HK, Ho, Hc5, Hp5, Ht3, Hr, Ht6⟩
  iapply (step_land m ρ K c 5 0 4 (P := holds c (slot4 fwM 1) fullShare (own m ρ (ring 7 c))) (slot4 fwM 1) rfl rfl rfl rfl rfl .rfl (by decide) (above c 13 (by decide))) $$ [$]
  iintro ⟨Ho, Hp5, _, Hf⟩
  ihave Hf := (halve c (slot4 fwM 1) (own m ρ (ring 7 c))) $$ Hf
  icases Hf with ⟨Hfl, Hfr⟩
  iapply (step_send0 m ρ K c (t := ring 1 c) (kS := 3) (kD := 6) (src' := slot4 fwM 1) (dst' := slot4 fwM 2) (q := lsh) (X := own m ρ (ring 7 c)) (l := left c 13) (l' := left c 14)
    rfl (dev14_eq c) rfl rfl rfl rfl rfl rfl rfl (by decide) (by decide) .rfl (holds_ring m ρ c _ _ 6 1 7 rfl)) $$ [$]
  iintro ⟨Hc3, Ho⟩
  simp only [wp_ret]
  imodintro
  iframe

theorem part12_run (c : Dev nD) {w1 w2 w3 w4 : BitVec 32} :
    iprop(known m ρ K ∗ owe c (left c 14) ∗ cred (tallyAt (kcell (c, 11)) 5 N) ∗ atPos ER (kcell (c, 11)) 1 ∅ 0 ∗ reached ER (kcell (c, 9)) 1
        ∗ dutyTok ER (kcell (c, 9)) 1 0 ∗ room (ring 7 c) (slot4 bwM 2) ∗ dutyTok ER (kcell (ring 7 c, 12)) 1 0 ∗ reached ER (kcell (ring 7 c, 12)) 1
        ∗ holds c (slot4 fwM 1) rsh (own m ρ (ring 7 c)) ∗ spot c 7)
      ⊢ runs c (k0_part12 (F := F) xM h0 oM h1 ysM h2 yrM h3 fwM h4 bwM h5 apM h6 cc0_scratch5 cc0_scratch6 cc0_scratch7 cc0_scratch8 cc0_scratch9 cc0_scratch10 cc0_scoped0 c w1 w2 w3 w4)
        (fun w => iprop(owe c (left c 15) ∗ atPos ER (kcell (c, 11)) 2 ∅ 0 ∗ holds c (slot4 bwM 1) rsh (own m ρ (ring 1 c)) ∗ cred (tallyAt (kcell (c, 9)) 2 N)
          ∗ holds c (slot4 fwM 1) rsh (own m ρ (ring 7 c)) ∗ piece c 7 (k0_pay16 (own m ρ (ring 7 c))))) := by
  rw [k0_part12_eq_skeleton]; unfold k0_part12_skel
  simp only [semSignalWord, semWaitWord, Prog.lift, Prog.bind_op, Prog.bind_ret, Prog.pure_eq_ret]
  iintro ⟨#HK, Ho, Hc11, Hp11, #R9, Ht9, Hr, Ht12, #R12, Hf, Hs⟩
  iapply (step_land m ρ K c 11 1 5 (P := holds c (slot4 bwM 1) fullShare (own m ρ (ring 1 c))) (slot4 bwM 1) rfl rfl rfl rfl rfl .rfl (by decide) (above c 14 (by decide))) $$ [$]
  iintro ⟨Ho, Hp11, _, Hb⟩
  ihave Hb := (halve c (slot4 bwM 1) (own m ρ (ring 1 c))) $$ Hb
  icases Hb with ⟨Hbl, Hbr⟩
  iapply (step_send m ρ K c (t := ring 7 c) (kS := 9) (kD := 12) (rS := 1) (rD := 1) (i := 7) (src' := slot4 bwM 1) (dst' := slot4 bwM 2) (q := lsh) (X := own m ρ (ring 1 c)) (l := left c 14) (l' := left c 15)
    rfl (dev15_eq c) rfl rfl rfl rfl rfl rfl rfl (by decide) (by decide) .rfl (holds_ring m ρ c _ _ 2 7 1 rfl)) $$ [$]
  iintro ⟨Hc9, Ho⟩
  iapply (step_load4 c 1) $$ Hf
  iintro Hf
  iapply (step_out c 7 (X := k0_pay16 (own m ρ (ring 7 c))) (off6_eq c 0) (wide_unsq _)) $$ [$]
  iintro Hs
  simp only [wp_ret]
  imodintro
  iframe

theorem part13_run (c : Dev nD) {w1 w2 w3 w4 w5 : BitVec 32} :
    iprop(known m ρ K ∗ owe c (left c 15) ∗ holds c (slot4 bwM 1) rsh (own m ρ (ring 1 c)) ∗ spot c 1 ∗ cred (tallyAt (kcell (c, 6)) 6 N) ∗ atPos ER (kcell (c, 6)) 0 ∅ 0)
      ⊢ runs c (k0_part13 (F := F) xM h0 oM h1 ysM h2 yrM h3 fwM h4 bwM h5 apM h6 cc0_scratch5 cc0_scratch6 cc0_scratch7 cc0_scratch8 cc0_scratch9 cc0_scratch10 cc0_scoped0 c w1 w2 w3 w4 w5)
        (fun w => iprop(owe c (left c 15) ∗ holds c (slot4 bwM 1) rsh (own m ρ (ring 1 c)) ∗ piece c 1 (k0_pay16 (own m ρ (ring 1 c))) ∗ atPos ER (kcell (c, 6)) 1 ∅ 0
          ∗ holds c (slot4 fwM 2) fullShare (own m ρ (ring 6 c)))) := by
  rw [k0_part13_eq_skeleton]; unfold k0_part13_skel
  simp only [semSignalWord, semWaitWord, Prog.lift, Prog.bind_op, Prog.bind_ret, Prog.pure_eq_ret]
  iintro ⟨#HK, Ho, Hb, Hs, Hc6, Hp6⟩
  iapply (step_load4 c 1) $$ Hb
  iintro Hb
  iapply (step_out c 1 (X := k0_pay16 (own m ρ (ring 1 c))) (off7_eq c 0) (wide_unsq _)) $$ [$]
  iintro Hs
  iapply (step_land m ρ K c 6 0 6 (P := holds c (slot4 fwM 2) fullShare (own m ρ (ring 6 c))) (slot4 fwM 2) rfl rfl rfl rfl rfl .rfl (by decide) (above c 15 (by decide))) $$ [$]
  iintro ⟨Ho, Hp6, _, Hf⟩
  simp only [wp_ret]
  imodintro
  iframe

theorem part14_run (c : Dev nD) {w1 w2 w3 w4 : BitVec 32} :
    iprop(known m ρ K ∗ owe c (left c 15) ∗ holds c (slot4 fwM 2) fullShare (own m ρ (ring 6 c)) ∗ dutyTok ER (kcell (c, 4)) 0 0 ∗ room (ring 1 c) (slot4 fwM 3)
        ∗ dutyTok ER (kcell (ring 1 c, 7)) 0 0 ∗ cred (tallyAt (kcell (c, 12)) 7 N) ∗ atPos ER (kcell (c, 12)) 1 ∅ 0 ∗ reached ER (kcell (c, 10)) 1
        ∗ dutyTok ER (kcell (c, 10)) 1 0 ∗ room (ring 7 c) (slot4 bwM 3) ∗ dutyTok ER (kcell (ring 7 c, 13)) 1 0 ∗ reached ER (kcell (ring 7 c, 13)) 1)
      ⊢ runs c (k0_part14 (F := F) xM h0 oM h1 ysM h2 yrM h3 fwM h4 bwM h5 apM h6 cc0_scratch5 cc0_scratch6 cc0_scratch7 cc0_scratch8 cc0_scratch9 cc0_scratch10 cc0_scoped0 c w1 w2 w3 w4)
        (fun w => iprop(owe c (left c 17) ∗ holds c (slot4 fwM 2) rsh (own m ρ (ring 6 c)) ∗ cred (tallyAt (kcell (c, 4)) 2 N) ∗ atPos ER (kcell (c, 12)) 2 ∅ 0
          ∗ holds c (slot4 bwM 2) rsh (own m ρ (ring 2 c)) ∗ cred (tallyAt (kcell (c, 10)) 2 N))) := by
  rw [k0_part14_eq_skeleton]; unfold k0_part14_skel
  simp only [semSignalWord, semWaitWord, Prog.lift, Prog.bind_op, Prog.bind_ret, Prog.pure_eq_ret]
  iintro ⟨#HK, Ho, Hf, Ht4, Hr3, Ht7, Hc12, Hp12, #R10, Ht10, Hr, Ht13, #R13⟩
  ihave Hf := (halve c (slot4 fwM 2) (own m ρ (ring 6 c))) $$ Hf
  icases Hf with ⟨Hfl, Hfr⟩
  iapply (step_send0 m ρ K c (t := ring 1 c) (kS := 4) (kD := 7) (src' := slot4 fwM 2) (dst' := slot4 fwM 3) (q := lsh) (X := own m ρ (ring 6 c)) (l := left c 15) (l' := left c 16)
    rfl (dev16_eq c) rfl rfl rfl rfl rfl rfl rfl (by decide) (by decide) .rfl (holds_ring m ρ c _ _ 5 1 6 rfl)) $$ [$]
  iintro ⟨Hc4, Ho⟩
  iapply (step_land m ρ K c 12 1 7 (P := holds c (slot4 bwM 2) fullShare (own m ρ (ring 2 c))) (slot4 bwM 2) rfl rfl rfl rfl rfl .rfl (by decide) (above c 16 (by decide))) $$ [$]
  iintro ⟨Ho, Hp12, _, Hb⟩
  ihave Hb := (halve c (slot4 bwM 2) (own m ρ (ring 2 c))) $$ Hb
  icases Hb with ⟨Hbl, Hbr⟩
  iapply (step_send m ρ K c (t := ring 7 c) (kS := 10) (kD := 13) (rS := 1) (rD := 1) (i := 9) (src' := slot4 bwM 2) (dst' := slot4 bwM 3) (q := lsh) (X := own m ρ (ring 2 c)) (l := left c 16) (l' := left c 17)
    rfl (dev17_eq c) rfl rfl rfl rfl rfl rfl rfl (by decide) (by decide) .rfl (holds_ring m ρ c _ _ 3 7 2 rfl)) $$ [$]
  iintro ⟨Hc10, Ho⟩
  simp only [wp_ret]
  imodintro
  iframe

theorem part15_run (c : Dev nD) {w1 w2 w3 w4 w5 w6 : BitVec 32} :
    iprop(known m ρ K ∗ owe c (left c 17) ∗ holds c (slot4 fwM 2) rsh (own m ρ (ring 6 c)) ∗ spot c 6 ∗ holds c (slot4 bwM 2) rsh (own m ρ (ring 2 c)) ∗ spot c 2
        ∗ cred (tallyAt (kcell (c, 7)) 8 N) ∗ atPos ER (kcell (c, 7)) 0 ∅ 0)
      ⊢ runs c (k0_part15 (F := F) xM h0 oM h1 ysM h2 yrM h3 fwM h4 bwM h5 apM h6 cc0_scratch5 cc0_scratch6 cc0_scratch7 cc0_scratch8 cc0_scratch9 cc0_scratch10 cc0_scoped0 c w1 w2 w3 w4 w5 w6)
        (fun w => iprop(owe c (left c 17) ∗ holds c (slot4 fwM 2) rsh (own m ρ (ring 6 c)) ∗ piece c 6 (k0_pay16 (own m ρ (ring 6 c)))
          ∗ holds c (slot4 bwM 2) rsh (own m ρ (ring 2 c)) ∗ piece c 2 (k0_pay16 (own m ρ (ring 2 c))) ∗ atPos ER (kcell (c, 7)) 1 ∅ 0
          ∗ holds c (slot4 fwM 3) fullShare (own m ρ (ring 5 c)))) := by
  rw [k0_part15_eq_skeleton]; unfold k0_part15_skel
  simp only [semSignalWord, semWaitWord, Prog.lift, Prog.bind_op, Prog.bind_ret, Prog.pure_eq_ret]
  iintro ⟨#HK, Ho, Hf, Hs6, Hb, Hs2, Hc7, Hp7⟩
  iapply (step_load4 c 2) $$ Hf
  iintro Hf
  iapply (step_out c 6 (X := k0_pay16 (own m ρ (ring 6 c))) (off6_eq c 1) (wide_unsq _)) $$ [$]
  iintro Hs6
  iapply (step_load4 c 2) $$ Hb
  iintro Hb
  iapply (step_out c 2 (X := k0_pay16 (own m ρ (ring 2 c))) (off7_eq c 1) (wide_unsq _)) $$ [$]
  iintro Hs2
  iapply (step_land m ρ K c 7 0 8 (P := holds c (slot4 fwM 3) fullShare (own m ρ (ring 5 c))) (slot4 fwM 3) rfl rfl rfl rfl rfl .rfl (by decide) (above c 17 (by decide))) $$ [$]
  iintro ⟨Ho, Hp7, _, Hf3⟩
  simp only [wp_ret]
  imodintro
  iframe

theorem part16_run (c : Dev nD) {w1 w2 w3 w4 : BitVec 32} :
    iprop(known m ρ K ∗ owe c (left c 17) ∗ cred (tallyAt (kcell (c, 13)) 9 N) ∗ atPos ER (kcell (c, 13)) 1 ∅ 0 ∗ holds c (slot4 fwM 3) fullShare (own m ρ (ring 5 c))
        ∗ spot c 5)
      ⊢ runs c (k0_part16 (F := F) xM h0 oM h1 ysM h2 yrM h3 fwM h4 bwM h5 apM h6 cc0_scratch5 cc0_scratch6 cc0_scratch7 cc0_scratch8 cc0_scratch9 cc0_scratch10 cc0_scoped0 c w1 w2 w3 w4)
        (fun w => iprop(⌜w = k0_pay16 (own m ρ (ring 3 c))⌝ ∗ owe c (left c 17) ∗ atPos ER (kcell (c, 13)) 2 ∅ 0 ∗ holds c (slot4 bwM 3) fullShare (own m ρ (ring 3 c))
          ∗ holds c (slot4 fwM 3) fullShare (own m ρ (ring 5 c)) ∗ piece c 5 (k0_pay16 (own m ρ (ring 5 c))))) := by
  rw [k0_part16_eq_skeleton]; unfold k0_part16_skel
  simp only [semSignalWord, semWaitWord, Prog.lift, Prog.bind_op, Prog.bind_ret, Prog.pure_eq_ret]
  iintro ⟨#HK, Ho, Hc13, Hp13, Hf, Hs⟩
  iapply (step_land m ρ K c 13 1 9 (P := holds c (slot4 bwM 3) fullShare (own m ρ (ring 3 c))) (slot4 bwM 3) rfl rfl rfl rfl rfl .rfl (by decide) (above c 17 (by decide))) $$ [$]
  iintro ⟨Ho, Hp13, _, Hb⟩
  iapply (step_load4 c 3) $$ Hf
  iintro Hf
  iapply (step_out c 5 (X := k0_pay16 (own m ρ (ring 5 c))) (off6_eq c 2) (wide_unsq _)) $$ [$]
  iintro Hs
  iapply (step_load4 c 3) $$ Hb
  iintro Hb
  simp only [wp_ret]
  imodintro
  isplitr; · ipureintro; exact wide_unsq _
  iframe

theorem part17_run (c : Dev nD) {w1 w2 w3 w4 : BitVec 32} :
    iprop(known m ρ K ∗ owe c (left c 17) ∗ spot c 3 ∗ cred (tallyAt (kcell (c, 15)) 10 N) ∗ atPos ER (kcell (c, 15)) 0 ∅ 0 ∗ spot c 4
        ∗ cred (tallyAt (kcell (c, 2)) 2 N) ∗ atPos ER (kcell (c, 2)) 0 ∅ 0)
      ⊢ runs c (k0_part17 (F := F) xM h0 oM h1 ysM h2 yrM h3 fwM h4 bwM h5 apM h6 cc0_scratch5 cc0_scratch6 cc0_scratch7 cc0_scratch8 cc0_scratch9 cc0_scratch10 cc0_scoped0 c w1 w2 w3 w4 (k0_pay16 (own m ρ (ring 3 c))))
        (fun w => iprop(owe c (left c 17) ∗ piece c 3 (k0_pay16 (own m ρ (ring 3 c))) ∗ atPos ER (kcell (c, 15)) 1 ∅ 0 ∗ holds c apM fullShare (own m ρ (ring 4 c))
          ∗ piece c 4 (k0_pay16 (own m ρ (ring 4 c))) ∗ atPos ER (kcell (c, 2)) 1 ∅ 0 ∗ holds c (slot4 fwM 0) lsh (own m ρ c))) := by
  rw [k0_part17_eq_skeleton]; unfold k0_part17_skel
  simp only [semSignalWord, semWaitWord, Prog.lift, Prog.bind_op, Prog.bind_ret, Prog.pure_eq_ret]
  iintro ⟨#HK, Ho, Hs3, Hc15, Hp15, Hs4, Hc2, Hp2⟩
  iapply (step_out c 3 (X := k0_pay16 (own m ρ (ring 3 c))) (off7_eq c 2) rfl) $$ [$]
  iintro Hs3
  iapply (step_land m ρ K c 15 0 10 (P := holds c apM fullShare (own m ρ (ring 4 c))) apM rfl rfl rfl rfl rfl .rfl (by decide) (above c 17 (by decide))) $$ [$]
  iintro ⟨Ho, Hp15, _, Ha⟩
  iapply (step_loadA c) $$ Ha
  iintro Ha
  iapply (step_out c 4 (X := k0_pay16 (own m ρ (ring 4 c))) (off8_eq c) rfl) $$ [$]
  iintro Hs4
  iapply (step_land m ρ K c 2 0 2 (P := holds c (slot4 fwM 0) lsh (own m ρ c)) (slot4 fwM 0) rfl rfl rfl rfl rfl .rfl (by decide) (above c 17 (by decide))) $$ [$]
  iintro ⟨Ho, Hp2, _, Hf⟩
  simp only [wp_ret]
  imodintro
  iframe

theorem part18_run (c : Dev nD) :
    iprop(known m ρ K ∗ owe c (left c 17) ∗ cred (tallyAt (kcell (c, 3)) 2 N) ∗ atPos ER (kcell (c, 3)) 0 ∅ 0 ∗ cred (tallyAt (kcell (c, 4)) 2 N)
        ∗ atPos ER (kcell (c, 4)) 0 ∅ 0 ∗ cred (tallyAt (kcell (c, 8)) 2 N) ∗ atPos ER (kcell (c, 8)) 1 ∅ 0 ∗ cred (tallyAt (kcell (c, 9)) 2 N)
        ∗ atPos ER (kcell (c, 9)) 1 ∅ 0)
      ⊢ runs c (k0_part18 (F := F) xM h0 oM h1 ysM h2 yrM h3 fwM h4 bwM h5 apM h6 cc0_scratch5 cc0_scratch6 cc0_scratch7 cc0_scratch8 cc0_scratch9 cc0_scratch10 cc0_scoped0)
        (fun w => iprop(owe c (left c 17) ∗ atPos ER (kcell (c, 3)) 1 ∅ 0 ∗ holds c (slot4 fwM 1) lsh (own m ρ (ring 7 c)) ∗ atPos ER (kcell (c, 4)) 1 ∅ 0
          ∗ holds c (slot4 fwM 2) lsh (own m ρ (ring 6 c)) ∗ atPos ER (kcell (c, 8)) 2 ∅ 0 ∗ holds c (slot4 bwM 0) lsh (own m ρ c) ∗ atPos ER (kcell (c, 9)) 2 ∅ 0
          ∗ holds c (slot4 bwM 1) lsh (own m ρ (ring 1 c)))) := by
  rw [k0_part18_eq_skeleton]; unfold k0_part18_skel
  simp only [semSignalWord, semWaitWord, Prog.lift, Prog.bind_op, Prog.bind_ret, Prog.pure_eq_ret]
  iintro ⟨#HK, Ho, Hc3, Hp3, Hc4, Hp4, Hc8, Hp8, Hc9, Hp9⟩
  iapply (step_land m ρ K c 3 0 2 (P := holds c (slot4 fwM 1) lsh (own m ρ (ring 7 c))) (slot4 fwM 1) rfl rfl rfl rfl rfl .rfl (by decide) (above c 17 (by decide))) $$ [$]
  iintro ⟨Ho, Hp3, _, H3⟩
  iapply (step_land m ρ K c 4 0 2 (P := holds c (slot4 fwM 2) lsh (own m ρ (ring 6 c))) (slot4 fwM 2) rfl rfl rfl rfl rfl .rfl (by decide) (above c 17 (by decide))) $$ [$]
  iintro ⟨Ho, Hp4, _, H4⟩
  iapply (step_land m ρ K c 8 1 2 (P := holds c (slot4 bwM 0) lsh (own m ρ c)) (slot4 bwM 0) rfl rfl rfl rfl rfl .rfl (by decide) (above c 17 (by decide))) $$ [$]
  iintro ⟨Ho, Hp8, _, H8⟩
  iapply (step_land m ρ K c 9 1 2 (P := holds c (slot4 bwM 1) lsh (own m ρ (ring 1 c))) (slot4 bwM 1) rfl rfl rfl rfl rfl .rfl (by decide) (above c 17 (by decide))) $$ [$]
  iintro ⟨Ho, Hp9, _, H9⟩
  simp only [wp_ret]
  imodintro
  iframe

end Cert.AllReduce

end
-- ==== Proof.Body.lean ====
/-
  The kernel's body on one device: its parts one after another.
-/
module

public import proofs.«01_k».proof.Proof.Ring

@[expose] public section

set_option backward.proofsInPublic true

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

variable (K : Dev nD × Fin 16 → ℕ)

/-! ## What a device starts with, and what it ends with -/

/-- Device `c` is in round `f k` of its semaphore of kind `k`. -/
def poss (c : Dev nD) (f : Fin 16 → ℕ) : sProp 𝕄 := bigSep Finset.univ fun k => atPos ER (kcell (c, k)) (f k) ∅ 0
omit [FloatOps F] in
theorem poss_eq (c : Dev nD) (f : Fin 16 → ℕ) : (poss c f : sProp 𝕄) =
    iprop(atPos ER (kcell (c, 0)) (f 0) ∅ 0 ∗ atPos ER (kcell (c, 1)) (f 1) ∅ 0 ∗ atPos ER (kcell (c, 2)) (f 2) ∅ 0 ∗ atPos ER (kcell (c, 3)) (f 3) ∅ 0
      ∗ atPos ER (kcell (c, 4)) (f 4) ∅ 0 ∗ atPos ER (kcell (c, 5)) (f 5) ∅ 0 ∗ atPos ER (kcell (c, 6)) (f 6) ∅ 0 ∗ atPos ER (kcell (c, 7)) (f 7) ∅ 0
      ∗ atPos ER (kcell (c, 8)) (f 8) ∅ 0 ∗ atPos ER (kcell (c, 9)) (f 9) ∅ 0 ∗ atPos ER (kcell (c, 10)) (f 10) ∅ 0 ∗ atPos ER (kcell (c, 11)) (f 11) ∅ 0
      ∗ atPos ER (kcell (c, 12)) (f 12) ∅ 0 ∗ atPos ER (kcell (c, 13)) (f 13) ∅ 0 ∗ atPos ER (kcell (c, 14)) (f 14) ∅ 0
      ∗ atPos ER (kcell (c, 15)) (f 15) ∅ 0) :=
  bigSep_univ_eq_bigSepL [0, 1, 2, 3, 4, 5, 6, 7, 8, 9, 10, 11, 12, 13, 14, 15] (by decide) (by decide) _
/-- The number of rounds of each semaphore. -/
def rounds (k : Fin 16) : ℕ := if 8 ≤ k.val ∧ k.val ≤ 13 then 2 else 1

omit [FloatOps F] in
theorem poss_rounds (c : Dev nD) : (poss c rounds : sProp 𝕄) =
    iprop(atPos ER (kcell (c, 0)) 1 ∅ 0 ∗ atPos ER (kcell (c, 1)) 1 ∅ 0 ∗ atPos ER (kcell (c, 2)) 1 ∅ 0 ∗ atPos ER (kcell (c, 3)) 1 ∅ 0
      ∗ atPos ER (kcell (c, 4)) 1 ∅ 0 ∗ atPos ER (kcell (c, 5)) 1 ∅ 0 ∗ atPos ER (kcell (c, 6)) 1 ∅ 0 ∗ atPos ER (kcell (c, 7)) 1 ∅ 0
      ∗ atPos ER (kcell (c, 8)) 2 ∅ 0 ∗ atPos ER (kcell (c, 9)) 2 ∅ 0 ∗ atPos ER (kcell (c, 10)) 2 ∅ 0 ∗ atPos ER (kcell (c, 11)) 2 ∅ 0
      ∗ atPos ER (kcell (c, 12)) 2 ∅ 0 ∗ atPos ER (kcell (c, 13)) 2 ∅ 0 ∗ atPos ER (kcell (c, 14)) 1 ∅ 0 ∗ atPos ER (kcell (c, 15)) 1 ∅ 0) :=
  poss_eq c rounds

/-- The tokens for the raises that device `c` makes elsewhere, and for those that its transfers make on its own send semaphores. -/
def toks (c : Dev nD) : sProp 𝕄 :=
  iprop(dutyTok ER (kcell (across 1 c, 0)) 0 0 ∗ dutyTok ER (kcell (across 2 c, 0)) 0 1 ∗ dutyTok ER (kcell (across 3 c, 0)) 0 2
    ∗ dutyTok ER (kcell (ring 7 c, 0)) 0 3 ∗ dutyTok ER (kcell (ring 1 c, 0)) 0 4 ∗ dutyTok ER (kcell (ring 4 c, 0)) 0 5
    ∗ dutyTok ER (kcell (across 1 c, 13)) 0 0 ∗ dutyTok ER (kcell (across 2 c, 12)) 0 0 ∗ dutyTok ER (kcell (across 3 c, 11)) 0 0
    ∗ dutyTok ER (kcell (ring 1 c, 5)) 0 0 ∗ dutyTok ER (kcell (ring 4 c, 15)) 0 0 ∗ dutyTok ER (kcell (ring 1 c, 1)) 0 0
    ∗ dutyTok ER (kcell (ring 7 c, 11)) 1 0 ∗ dutyTok ER (kcell (ring 1 c, 6)) 0 0 ∗ dutyTok ER (kcell (ring 7 c, 12)) 1 0
    ∗ dutyTok ER (kcell (ring 1 c, 7)) 0 0 ∗ dutyTok ER (kcell (ring 7 c, 13)) 1 0 ∗ dutyTok ER (kcell (c, 2)) 0 0 ∗ dutyTok ER (kcell (c, 3)) 0 0
    ∗ dutyTok ER (kcell (c, 4)) 0 0 ∗ dutyTok ER (kcell (c, 8)) 0 0 ∗ dutyTok ER (kcell (c, 9)) 0 0 ∗ dutyTok ER (kcell (c, 10)) 0 0
    ∗ dutyTok ER (kcell (c, 8)) 1 0 ∗ dutyTok ER (kcell (c, 9)) 1 0 ∗ dutyTok ER (kcell (c, 10)) 1 0 ∗ dutyTok ER (kcell (c, 14)) 0 0)

/-- The credit for the raises that device `c` receives. -/
def creds (c : Dev nD) : sProp 𝕄 :=
  iprop(cred (tallyAt (kcell (c, 0)) 1 6) ∗ cred (tallyAt (kcell (c, 13)) 2 N) ∗ cred (tallyAt (kcell (c, 12)) 2 N) ∗ cred (tallyAt (kcell (c, 11)) 2 N)
    ∗ cred (tallyAt (kcell (c, 5)) 4 N) ∗ cred (tallyAt (kcell (c, 15)) 10 N) ∗ cred (tallyAt (kcell (c, 1)) 3 (amt 1))
    ∗ cred (tallyAt (kcell (c, 11)) 5 N) ∗ cred (tallyAt (kcell (c, 6)) 6 N) ∗ cred (tallyAt (kcell (c, 12)) 7 N) ∗ cred (tallyAt (kcell (c, 7)) 8 N)
    ∗ cred (tallyAt (kcell (c, 13)) 9 N))

/-- The slots of device `c`, free to be written. -/
def rooms (c : Dev nD) : sProp 𝕄 :=
  iprop(room c (slot3 ysM 0) ∗ room c (slot3 ysM 1) ∗ room c (slot3 ysM 2) ∗ room c (slot3 yrM 0) ∗ room c (slot3 yrM 1) ∗ room c (slot3 yrM 2)
    ∗ room c (slot4 fwM 0) ∗ room c (slot4 fwM 1) ∗ room c (slot4 fwM 2) ∗ room c (slot4 fwM 3) ∗ room c (slot4 bwM 0) ∗ room c (slot4 bwM 1)
    ∗ room c (slot4 bwM 2) ∗ room c (slot4 bwM 3) ∗ room c apM)

/-- The block of the result that device `c` writes at the position of the device `k` further round the ring. -/
def outBlk (c : Dev nD) (k : Fin 8) : FVec F S256x512 .f32 := if k = 0 then acc m ρ c else k0_pay16 (own m ρ (ring k c))

def spots (c : Dev nD) : sProp 𝕄 := bigSep Finset.univ fun k => spot c k
def pieces (c : Dev nD) : sProp 𝕄 := bigSep Finset.univ fun k => piece c k (outBlk m ρ c k)
theorem spots_eq (c : Dev nD) : (spots c : sProp 𝕄) = iprop(spot c 0 ∗ spot c 1 ∗ spot c 2 ∗ spot c 3 ∗ spot c 4 ∗ spot c 5 ∗ spot c 6 ∗ spot c 7) :=
  bigSep_univ_eq_bigSepL [0, 1, 2, 3, 4, 5, 6, 7] (by decide) (by decide) _
theorem pieces_eq (c : Dev nD) : pieces m ρ c = iprop(piece c 0 (acc m ρ c) ∗ piece c 1 (k0_pay16 (own m ρ (ring 1 c))) ∗ piece c 2 (k0_pay16 (own m ρ (ring 2 c))) ∗ piece c 3 (k0_pay16 (own m ρ (ring 3 c)))
    ∗ piece c 4 (k0_pay16 (own m ρ (ring 4 c))) ∗ piece c 5 (k0_pay16 (own m ρ (ring 5 c))) ∗ piece c 6 (k0_pay16 (own m ρ (ring 6 c)))
    ∗ piece c 7 (k0_pay16 (own m ρ (ring 7 c)))) :=
  bigSep_univ_eq_bigSepL [0, 1, 2, 3, 4, 5, 6, 7] (by decide) (by decide) _

/-! ## The body -/

variable {h0 : xM.IsWhole} {h1 : oM.IsWhole} {h2 : ysM.IsWhole} {h3 : yrM.IsWhole} {h4 : fwM.IsWhole} {h5 : bwM.IsWhole} {h6 : apM.IsWhole}

set_option maxHeartbeats 4000000 in
theorem body_run (c : Dev nD) :
    iprop(known m ρ K ∗ owe c (left c 0) ∗ toks c ∗ poss c (fun _ => 0) ∗ creds c ∗ rooms c ∗ arg m ρ c ∗ spots c)
      ⊢ runs c (cc0_body (F := F) xM h0 oM h1 ysM h2 yrM h3 fwM h4 bwM h5 apM h6 cc0_scratch5 cc0_scratch6 cc0_scratch7 cc0_scratch8 cc0_scratch9 cc0_scratch10 cc0_scoped0)
        (fun _ => iprop(owe c (left c 17) ∗ poss c rounds ∗ rooms c ∗ arg m ρ c ∗ pieces m ρ c)) := by
  rw [cc0_body_eq_skeleton]; unfold cc0_body_skel
  simp only [Prog.lift, Prog.bind_op, Prog.bind_ret, Prog.pure_eq_ret]
  rw [poss_eq, poss_rounds, spots_eq, pieces_eq]
  unfold toks creds rooms
  have b0 : barPay (F := F) c 0 ⊢ room (across 3 c) (slot3 yrM 0) := .rfl
  have b1 : barPay (F := F) c 1 ⊢ room (across 2 c) (slot3 yrM 1) := .rfl
  have b2 : barPay (F := F) c 2 ⊢ room (across 1 c) (slot3 yrM 2) := .rfl
  have b3 : barPay (F := F) c 3 ⊢ iprop(room (ring 1 c) (slot4 fwM 1) ∗ room (ring 1 c) (slot4 fwM 2) ∗ room (ring 1 c) (slot4 fwM 3)) := .rfl
  have b4 : barPay (F := F) c 4 ⊢ iprop(room (ring 7 c) (slot4 bwM 1) ∗ room (ring 7 c) (slot4 bwM 2) ∗ room (ring 7 c) (slot4 bwM 3)) := .rfl
  have b5 : barPay (F := F) c 5 ⊢ room (ring 4 c) apM := .rfl
  iintro ⟨#HK, Ho, ⟨T0, T1, T2, T3, T4, T5, T6, T7, T8, T9, T10, T11, T12, T13, T14, T15, T16, S2_0, S3_0, S4_0, S8_0, S9_0, S10_0, S8_1, S9_1, S10_1, S14_0⟩, ⟨P0, P1, P2, P3, P4, P5, P6, P7, P8, P9, P10, P11, P12, P13, P14, P15⟩, ⟨C0_1, C13_2, C12_2, C11_2, C5_4, C15_10, C1_3, C11_5, C6_6, C12_7, C7_8, C13_9⟩, ⟨Ys0, Ys1, Ys2, Yr0, Yr1, Yr2, Fw0, Fw1, Fw2, Fw3, Bw0, Bw1, Bw2, Bw3, Ap⟩, Hx, ⟨O0, O1, O2, O3, O4, O5, O6, O7⟩⟩
  iapply (step_part c (part1_run c)) $$ []
  · iempintro
  iintro %w1 %e1
  obtain ⟨d0, v2, v5, v8, v11, v16, v19, v24, v27, v30, c4⟩ := w1
  change d0 = c at e1
  subst e1
  iapply (step_part d0 (part2_run m ρ K d0)) $$ [$]
  iintro %w2 ⟨%e2, Ho⟩
  obtain ⟨v32, v35, v36, c16⟩ := w2
  change v36 = _ at e2
  subst e2
  iapply (step_part d0 (part3_run m ρ K d0)) $$ [$]
  iintro %w3 ⟨Ho, Hx, Ys0⟩
  iapply (step_part d0 (part4_run m ρ K d0)) $$ [$]
  iintro %w4 ⟨Ho, Hx, Ys1, Ys2, P0, B0, B1, B2, B3, B4, B5⟩
  obtain ⟨v117, v122⟩ := w4
  ihave B0 := b0 $$ B0
  ihave B1 := b1 $$ B1
  ihave B2 := b2 $$ B2
  ihave B3 := b3 $$ B3
  ihave B4 := b4 $$ B4
  ihave B5 := b5 $$ B5
  icases B3 with ⟨B31, B32, B33⟩
  icases B4 with ⟨B41, B42, B43⟩
  iapply (step_part d0 (part5_run m ρ K d0)) $$ [$]
  iintro %w5 ⟨Ho, C8, C9⟩
  iapply (step_part d0 (part6_run m ρ K d0)) $$ [$]
  iintro %v183 ⟨%e6, Ho, C10, Hx⟩
  iapply (step_part d0 (part7_run m ρ K d0)) $$ [$]
  iintro %w7 ⟨%e7, Ho, Yr0, Yr1, P11, #R11, P12, #R12⟩
  obtain ⟨v216, v218, c4'⟩ := w7
  change v216 = _ at e7
  iapply (step_part d0 (part8_run m ρ K d0)) $$ [$]
  iintro %v232 ⟨%e8, Ho, Yr2, Ys0, Ys1, P13, #R13, P8, #R8, P9, #R9⟩
  have e : v232 = acc m ρ d0 := by rw [e8, e7, e6]; rfl
  subst e
  iapply (step_part d0 (part9_run m ρ K d0)) $$ [$]
  iintro %w9 ⟨Ho, Ys2, P10, #R10, Fw0r, Bw0, C2⟩
  iapply (step_part d0 (part10_run m ρ K d0)) $$ [$]
  iintro %w10 ⟨Ho, C14, P1, #R12', #R13', C8, Bw0r, O0⟩
  obtain ⟨v298, c4''⟩ := w10
  iapply (step_part d0 (part11_run m ρ K d0)) $$ [$]
  iintro %w11 ⟨Ho, P5, Fw1r, C3⟩
  iapply (step_part d0 (part12_run m ρ K d0)) $$ [$]
  iintro %w12 ⟨Ho, P11, Bw1r, C9, Fw1r, O7⟩
  obtain ⟨v360, c8⟩ := w12
  iapply (step_part d0 (part13_run m ρ K d0)) $$ [$]
  iintro %w13 ⟨Ho, Bw1r, O1, P6, Fw2⟩
  iapply (step_part d0 (part14_run m ρ K d0)) $$ [$]
  iintro %w14 ⟨Ho, Fw2r, C4, P12, Bw2r, C10⟩
  obtain ⟨v420, c1⟩ := w14
  iapply (step_part d0 (part15_run m ρ K d0)) $$ [$]
  iintro %w15 ⟨Ho, Fw2r, O6, Bw2r, O2, P7, Fw3⟩
  iapply (step_part d0 (part16_run m ρ K d0)) $$ [$]
  iintro %v478 ⟨%e16, Ho, P13, Bw3, Fw3, O5⟩
  subst e16
  iapply (step_part d0 (part17_run m ρ K d0)) $$ [$]
  iintro %w17 ⟨Ho, O3, P15, Ap, O4, P2, Fw0l⟩
  iapply (step_part d0 (part18_run m ρ K d0)) $$ [$]
  iintro %w18 ⟨Ho, P3, Fw1l, P4, Fw2l, P8, Bw0l, P9, Bw1l⟩
  iapply (step_land m ρ K d0 10 1 2 (P := holds d0 (slot4 bwM 2) lsh (own m ρ (ring 2 d0))) (slot4 bwM 2) rfl rfl rfl rfl rfl .rfl (by decide) (above d0 17 (by decide))) $$ [$]
  iintro ⟨Ho, P10, _, Bw2l⟩
  iapply (step_land m ρ K d0 14 0 2 (P := holds d0 (slot4 fwM 0) rsh (own m ρ d0)) (slot4 fwM 0) rfl rfl rfl rfl rfl .rfl (by decide) (above d0 17 (by decide))) $$ [$]
  iintro ⟨Ho, P14, _, Fw0r⟩
  simp only [wp_ret]
  imodintro
  ihave Fw0 := (unhalve d0 (slot4 fwM 0) (own m ρ d0)) $$ [$]
  ihave Fw1 := (unhalve d0 (slot4 fwM 1) (own m ρ (ring 7 d0))) $$ [$]
  ihave Fw2 := (unhalve d0 (slot4 fwM 2) (own m ρ (ring 6 d0))) $$ [$]
  ihave Bw0 := (unhalve d0 (slot4 bwM 0) (own m ρ d0)) $$ [$]
  ihave Bw1 := (unhalve d0 (slot4 bwM 1) (own m ρ (ring 1 d0))) $$ [$]
  ihave Bw2 := (unhalve d0 (slot4 bwM 2) (own m ρ (ring 2 d0))) $$ [$]
  isplitl [Ho]; · iexact Ho
  isplitl [P0 P1 P2 P3 P4 P5 P6 P7 P8 P9 P10 P11 P12 P13 P14 P15]
  · iframe
  isplitl [Ys0 Ys1 Ys2 Yr0 Yr1 Yr2 Fw0 Fw1 Fw2 Fw3 Bw0 Bw1 Bw2 Bw3 Ap]
  · isplitl [Ys0]; · iexists _; iexact Ys0
    isplitl [Ys1]; · iexists _; iexact Ys1
    isplitl [Ys2]; · iexists _; iexact Ys2
    isplitl [Yr0]; · iexists _; iexact Yr0
    isplitl [Yr1]; · iexists _; iexact Yr1
    isplitl [Yr2]; · iexists _; iexact Yr2
    isplitl [Fw0]; · iexists _; iexact Fw0
    isplitl [Fw1]; · iexists _; iexact Fw1
    isplitl [Fw2]; · iexists _; iexact Fw2
    isplitl [Fw3]; · iexists _; iexact Fw3
    isplitl [Bw0]; · iexists _; iexact Bw0
    isplitl [Bw1]; · iexists _; iexact Bw1
    isplitl [Bw2]; · iexists _; iexact Bw2
    isplitl [Bw3]; · iexists _; iexact Bw3
    iexists _; iexact Ap
  isplitl [Hx]; · iexact Hx
  iframe

end Cert.AllReduce

end
-- ==== Proof.Slots.lean ====
/-
  The scratch buffers and the result as their blocks, taken apart and put together.
-/
module

public import proofs.«01_k».proof.Proof.Body

@[expose] public section

set_option backward.proofsInPublic true

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## One array from its blocks -/

/-- Contents given on disjoint rectangles are those of one array. -/
theorem exists_glue {T : Type} [DecidableEq T] {sh : Shape} {α : Type} [Nonempty α] (r : T → Rect sh) (hd : ∀ t t', t ≠ t' → Disjoint (r t).set (r t').set)
    (G : ∀ t, (r t).shape.Idx → α) : ∃ X : sh.Idx → α, ∀ t j, X ((r t).emb j) = G t j := by
  classical
  refine ⟨fun i => if h : ∃ p : (Σ t, (r t).shape.Idx), (r p.1).emb p.2 = i then G h.choose.1 h.choose.2 else Classical.arbitrary α, fun t j => ?_⟩
  have h : ∃ p : (Σ t, (r t).shape.Idx), (r p.1).emb p.2 = (r t).emb j := ⟨⟨t, j⟩, rfl⟩
  show (if h : ∃ p : (Σ t, (r t).shape.Idx), (r p.1).emb p.2 = (r t).emb j then G h.choose.1 h.choose.2 else Classical.arbitrary α) = G t j
  rw [dif_pos h]
  suffices e : h.choose = ⟨t, j⟩ by rw [e]
  have hp := h.choose_spec
  generalize h.choose = p at hp ⊢
  obtain ⟨t', j'⟩ := p
  have ht : t' = t := by
    by_contra hne
    have h1 : (r t').emb j' ∈ (r t').set := by rw [← Rect.map_emb_univ]; exact Finset.mem_map_of_mem _ (Finset.mem_univ _)
    have h2 : (r t').emb j' ∈ (r t).set := by rw [hp, ← Rect.map_emb_univ]; exact Finset.mem_map_of_mem _ (Finset.mem_univ _)
    exact Finset.disjoint_left.mp (hd t' t hne) h1 h2
  subst ht
  have e : j' = j := (r t').emb.injective hp
  rw [e]

theorem rect3_disjoint (i i' : Fin 3) (h : i ≠ i') : Disjoint (rect3 i).set (rect3 i').set := by
  refine Finset.disjoint_left.mpr fun x hx hx' => h ?_
  have h1 := Rect.mem_set_unit.mp hx 0
  have h2 := Rect.mem_set_unit.mp hx' 0
  simp only [Matrix.cons_val_zero] at h1 h2
  exact Fin.ext (by omega)
theorem rect4_disjoint (i i' : Fin 4) (h : i ≠ i') : Disjoint (rect4 i).set (rect4 i').set := by
  refine Finset.disjoint_left.mpr fun x hx hx' => h ?_
  have h1 := Rect.mem_set_unit.mp hx 0
  have h2 := Rect.mem_set_unit.mp hx' 0
  simp only [Matrix.cons_val_zero] at h1 h2
  exact Fin.ext (by omega)
theorem rectO_disjoint (i i' : Fin 8) (h : i ≠ i') : Disjoint (rectO i).set (rectO i').set := by
  refine Finset.disjoint_left.mpr fun x hx hx' => h ?_
  have h1 := Rect.mem_set_unit.mp hx 0
  have h2 := Rect.mem_set_unit.mp hx' 0
  simp only [Matrix.cons_val_zero] at h1 h2
  exact Fin.ext (by omega)

theorem rect3_cover : (Finset.univ : Finset (Fin 3)).biUnion (fun i => (rect3 i).set) = Finset.univ := by
  refine Finset.eq_univ_of_forall fun x => Finset.mem_biUnion.mpr ⟨x 0, Finset.mem_univ _, Rect.mem_set_unit.mpr fun a => ?_⟩
  have := (x a).isLt
  fin_cases a
  · exact ⟨le_refl _, Nat.lt_succ_self _⟩
  · exact ⟨Nat.zero_le _, this⟩
  · exact ⟨Nat.zero_le _, this⟩
theorem rect4_cover : (Finset.univ : Finset (Fin 4)).biUnion (fun i => (rect4 i).set) = Finset.univ := by
  refine Finset.eq_univ_of_forall fun x => Finset.mem_biUnion.mpr ⟨x 0, Finset.mem_univ _, Rect.mem_set_unit.mpr fun a => ?_⟩
  have := (x a).isLt
  fin_cases a
  · exact ⟨le_refl _, Nat.lt_succ_self _⟩
  · exact ⟨Nat.zero_le _, this⟩
  · exact ⟨Nat.zero_le _, this⟩
theorem rectO_cover : (Finset.univ : Finset (Fin 8)).biUnion (fun i => (rectO i).set) = Finset.univ := by
  refine Finset.eq_univ_of_forall fun x => ?_
  have h0 : (x 0).val < 2048 := (x 0).isLt
  have h1 := (x 1).isLt
  refine Finset.mem_biUnion.mpr ⟨⟨(x 0).val / 256, by omega⟩, Finset.mem_univ _, Rect.mem_set_unit.mpr fun a => ?_⟩
  fin_cases a
  · show 256 * ((x 0).val / 256) ≤ (x 0).val ∧ (x 0).val < 256 * ((x 0).val / 256) + 256
    omega
  · exact ⟨Nat.zero_le _, h1⟩

/-! ## The scratch buffers -/

omit [FloatOps F] in
theorem owns_whole_eq (c : Dev nD) (b : Ref sig .tc) (X : b.ty.Contents (Elt F)) : (owns (Ix := ℕ) (Name := ℕ) (U := UU) (Lvl := ℕ) (c : Thread nD τ) (Memref.whole b) fullShare X : sProp 𝕄)
    = iprop(∃ f : Buf (Elt F) ((c : Thread nD τ).loc b), ⌜f = X⌝ ∗ (((c : Thread nD τ).loc b) ↦{fullShare} f)) := by
  unfold owns; simp only [Memref.view_whole, View.read_whole, View.set_whole]

/-- A buffer that a device has, at any contents. -/
def any (c : Dev nD) (b : Ref sig .tc) : sProp 𝕄 := iprop(∃ f : Buf (Elt F) ((c : Thread nD τ).loc b), (((c : Thread nD τ).loc b) ↦{fullShare} f))

omit [FloatOps F] in
theorem any_owns (c : Dev nD) (b : Ref sig .tc) : (any c b : sProp 𝕄) = iprop(∃ X : b.ty.Contents (Elt F), owns (c : Thread nD τ) (Memref.whole b) fullShare X) := by
  simp only [owns_whole_eq]
  unfold any
  have h1 : iprop(∃ f : Buf (Elt F) ((c : Thread nD τ).loc b), (((c : Thread nD τ).loc b) ↦{fullShare} f))
      ⊢ (iprop(∃ X : b.ty.Contents (Elt F), ∃ f : Buf (Elt F) ((c : Thread nD τ).loc b), ⌜f = X⌝ ∗ (((c : Thread nD τ).loc b) ↦{fullShare} f)) : sProp 𝕄) := by
    iintro ⟨%f, H⟩
    iexists f
    iexists f
    isplitr; · ipureintro; rfl
    iexact H
  have h2 : iprop(∃ X : b.ty.Contents (Elt F), ∃ f : Buf (Elt F) ((c : Thread nD τ).loc b), ⌜f = X⌝ ∗ (((c : Thread nD τ).loc b) ↦{fullShare} f))
      ⊢ (iprop(∃ f : Buf (Elt F) ((c : Thread nD τ).loc b), (((c : Thread nD τ).loc b) ↦{fullShare} f)) : sProp 𝕄) := by
    iintro ⟨%X, %f, -, H⟩
    iexists f; iexact H
  exact BI.Entails.antisymm h1 h2

/-- Blocks that together are an array, held at any contents, are that array held. -/
theorem owns_glue {T : Type} [Fintype T] [DecidableEq T] {sh : Shape} {e : EltTy} (c : Dev nD) (M : Memref sig .tc .vmem sh e) (r : T → Rect sh)
    (hr : ∀ t a, (r t).stride a = 1) (hd : ∀ t t', t ≠ t' → Disjoint (r t).set (r t').set) (hcov : (Finset.univ : Finset T).biUnion (fun t => (r t).set) = Finset.univ)
    (G : ∀ t, (r t).shape.Idx → Elt F e) :
    bigSep Finset.univ (fun t => owns (c : Thread nD τ) (M.slice (r t) (hr t)) fullShare (G t))
      ⊢ (iprop(∃ X : sh.Idx → Elt F e, ⌜∀ t j, X ((r t).emb j) = G t j⌝ ∗ owns (c : Thread nD τ) M fullShare X) : sProp 𝕄) := by
  obtain ⟨X, hX⟩ := exists_glue r hd G
  have hG : G = fun t j => X ((r t).emb j) := by funext t j; exact (hX t j).symm
  have h := owns_of_rects (Ix := ℕ) (Name := ℕ) (U := UU) (Lvl := ℕ) (Val := Elt F) (c : Thread nD τ) M fullShare r hr hd hcov X
  rw [hG]
  iintro H
  iexists X
  isplitr; · ipureintro; exact fun t j => rfl
  iapply h $$ H

omit [FloatOps F] in
theorem room_slot3 (c : Dev nD) (M : Memref sig .tc .vmem S3x256x512 .bf16) (i : Fin 3) :
    (room c (slot3 M i) : sProp 𝕄) = iprop(∃ X : Blk F, owns (c : Thread nD τ) (M.slice (rect3 i) (fun _ => rfl)) fullShare (unsq X)) := by
  unfold room; congr 1; funext X; exact holds_slot3 c M i fullShare X
omit [FloatOps F] in
theorem room_slot4 (c : Dev nD) (M : Memref sig .tc .vmem S4x256x512 .bf16) (i : Fin 4) :
    (room c (slot4 M i) : sProp 𝕄) = iprop(∃ X : Blk F, owns (c : Thread nD τ) (M.slice (rect4 i) (fun _ => rfl)) fullShare (unsq X)) := by
  unfold room; congr 1; funext X; exact holds_slot4 c M i fullShare X

omit [FloatOps F] in
theorem rooms3_of (c : Dev nD) (b : Ref sig .tc) (M : Memref sig .tc .vmem S3x256x512 .bf16) (hb : (any c b : sProp 𝕄) ⊢ iprop(∃ X : S3x256x512.Idx → Elt F .bf16, owns (c : Thread nD τ) M fullShare X)) :
    any c b ⊢ (iprop(room c (slot3 M 0) ∗ room c (slot3 M 1) ∗ room c (slot3 M 2)) : sProp 𝕄) := by
  refine hb.trans (.trans ?_ (Entails.of_eq (bigSep_univ_eq_bigSepL [0, 1, 2] (by decide) (by decide) (fun i : Fin 3 => room c (slot3 M i)))))
  have h : ∀ X : S3x256x512.Idx → Elt F .bf16, (owns (c : Thread nD τ) M fullShare X : sProp 𝕄) ⊢ bigSep Finset.univ fun i : Fin 3 => room c (slot3 M i) := fun X => by
    refine (owns_rects (c : Thread nD τ) M fullShare rect3 (fun _ _ => rfl) rect3_disjoint rect3_cover X).trans (bigSep_mono fun i _ => ?_)
    have h' : (owns (c : Thread nD τ) (M.slice (rect3 i) (fun _ => rfl)) fullShare (fun j => X ((rect3 i).emb j)) : sProp 𝕄) ⊢ room c (slot3 M i) := by
      rw [room_slot3]
      iintro H
      iexists (sq fun j => X ((rect3 i).emb j))
      have e : (owns (c : Thread nD τ) (M.slice (rect3 i) (fun _ => rfl)) fullShare (fun j => X ((rect3 i).emb j)) : sProp 𝕄)
        ⊢ owns (c : Thread nD τ) (M.slice (rect3 i) (fun _ => rfl)) fullShare (unsq (sq fun j => X ((rect3 i).emb j))) := by rw [unsq_sq]; exact .rfl
      iapply e $$ H
    exact h'
  iintro ⟨%X, H⟩
  iapply (h X) $$ H
omit [FloatOps F] in
theorem rooms4_of (c : Dev nD) (b : Ref sig .tc) (M : Memref sig .tc .vmem S4x256x512 .bf16) (hb : (any c b : sProp 𝕄) ⊢ iprop(∃ X : S4x256x512.Idx → Elt F .bf16, owns (c : Thread nD τ) M fullShare X)) :
    any c b ⊢ (iprop(room c (slot4 M 0) ∗ room c (slot4 M 1) ∗ room c (slot4 M 2) ∗ room c (slot4 M 3)) : sProp 𝕄) := by
  refine hb.trans (.trans ?_ (Entails.of_eq (bigSep_univ_eq_bigSepL [0, 1, 2, 3] (by decide) (by decide) (fun i : Fin 4 => room c (slot4 M i)))))
  have h : ∀ X : S4x256x512.Idx → Elt F .bf16, (owns (c : Thread nD τ) M fullShare X : sProp 𝕄) ⊢ bigSep Finset.univ fun i : Fin 4 => room c (slot4 M i) := fun X => by
    refine (owns_rects (c : Thread nD τ) M fullShare rect4 (fun _ _ => rfl) rect4_disjoint rect4_cover X).trans (bigSep_mono fun i _ => ?_)
    have h' : (owns (c : Thread nD τ) (M.slice (rect4 i) (fun _ => rfl)) fullShare (fun j => X ((rect4 i).emb j)) : sProp 𝕄) ⊢ room c (slot4 M i) := by
      rw [room_slot4]
      iintro H
      iexists (sq fun j => X ((rect4 i).emb j))
      have e : (owns (c : Thread nD τ) (M.slice (rect4 i) (fun _ => rfl)) fullShare (fun j => X ((rect4 i).emb j)) : sProp 𝕄)
        ⊢ owns (c : Thread nD τ) (M.slice (rect4 i) (fun _ => rfl)) fullShare (unsq (sq fun j => X ((rect4 i).emb j))) := by rw [unsq_sq]; exact .rfl
      iapply e $$ H
    exact h'
  iintro ⟨%X, H⟩
  iapply (h X) $$ H

theorem of_rooms3 (c : Dev nD) (M : Memref sig .tc .vmem S3x256x512 .bf16) :
    iprop(room c (slot3 M 0) ∗ room c (slot3 M 1) ∗ room c (slot3 M 2)) ⊢ (iprop(∃ X : S3x256x512.Idx → Elt F .bf16, owns (c : Thread nD τ) M fullShare X) : sProp 𝕄) := by
  refine (Entails.of_eq (bigSep_univ_eq_bigSepL [0, 1, 2] (by decide) (by decide) (fun i : Fin 3 => room c (slot3 M i))).symm).trans ?_
  simp only [room_slot3]
  haveI : Nonempty (Blk F) := ⟨fun _ => (Elt.nonempty F .bf16).some⟩
  have h := BI.bigSep_exists_pi Finset.univ fun (i : Fin 3) (X : Blk F) => (owns (c : Thread nD τ) (M.slice (rect3 i) (fun _ => rfl)) fullShare (unsq X) : sProp 𝕄)
  refine h.trans ?_
  have h' : ∀ y : Fin 3 → Blk F, bigSep Finset.univ (fun i => owns (c : Thread nD τ) (M.slice (rect3 i) (fun _ => rfl)) fullShare (unsq (y i)))
      ⊢ (iprop(∃ X : S3x256x512.Idx → Elt F .bf16, owns (c : Thread nD τ) M fullShare X) : sProp 𝕄) := fun y => by
    iintro H
    ihave H := (owns_glue c M rect3 (fun _ _ => rfl) rect3_disjoint rect3_cover fun i => unsq (y i)) $$ H
    icases H with ⟨%X, -, H⟩
    iexists X; iexact H
  exact sProp.exists_elim h'

theorem of_rooms4 (c : Dev nD) (M : Memref sig .tc .vmem S4x256x512 .bf16) :
    iprop(room c (slot4 M 0) ∗ room c (slot4 M 1) ∗ room c (slot4 M 2) ∗ room c (slot4 M 3)) ⊢ (iprop(∃ X : S4x256x512.Idx → Elt F .bf16, owns (c : Thread nD τ) M fullShare X) : sProp 𝕄) := by
  refine (Entails.of_eq (bigSep_univ_eq_bigSepL [0, 1, 2, 3] (by decide) (by decide) (fun i : Fin 4 => room c (slot4 M i))).symm).trans ?_
  simp only [room_slot4]
  haveI : Nonempty (Blk F) := ⟨fun _ => (Elt.nonempty F .bf16).some⟩
  have h := BI.bigSep_exists_pi Finset.univ fun (i : Fin 4) (X : Blk F) => (owns (c : Thread nD τ) (M.slice (rect4 i) (fun _ => rfl)) fullShare (unsq X) : sProp 𝕄)
  refine h.trans ?_
  have h' : ∀ y : Fin 4 → Blk F, bigSep Finset.univ (fun i => owns (c : Thread nD τ) (M.slice (rect4 i) (fun _ => rfl)) fullShare (unsq (y i)))
      ⊢ (iprop(∃ X : S4x256x512.Idx → Elt F .bf16, owns (c : Thread nD τ) M fullShare X) : sProp 𝕄) := fun y => by
    iintro H
    ihave H := (owns_glue c M rect4 (fun _ _ => rfl) rect4_disjoint rect4_cover fun i => unsq (y i)) $$ H
    icases H with ⟨%X, -, H⟩
    iexists X; iexact H
  exact sProp.exists_elim h'

/-- The five scratch buffers of a device. -/
def scratch (c : Dev nD) : sProp 𝕄 := iprop(any c cc0_scratch0 ∗ any c cc0_scratch1 ∗ any c cc0_scratch2 ∗ any c cc0_scratch3 ∗ any c cc0_scratch4)

omit [FloatOps F] in
theorem scratch_rooms (c : Dev nD) : (scratch c : sProp 𝕄) ⊢ rooms c := by
  have h0 := rooms3_of (F := F) c cc0_scratch0 ysM (Entails.of_eq (any_owns c cc0_scratch0))
  have h1 := rooms3_of (F := F) c cc0_scratch1 yrM (Entails.of_eq (any_owns c cc0_scratch1))
  have h2 := rooms4_of (F := F) c cc0_scratch2 fwM (Entails.of_eq (any_owns c cc0_scratch2))
  have h3 := rooms4_of (F := F) c cc0_scratch3 bwM (Entails.of_eq (any_owns c cc0_scratch3))
  have h4 : (any c cc0_scratch4 : sProp 𝕄) ⊢ room c apM := Entails.of_eq (any_owns c cc0_scratch4)
  unfold scratch rooms
  iintro ⟨H0, H1, H2, H3, H4⟩
  ihave H0 := h0 $$ H0
  ihave H1 := h1 $$ H1
  ihave H2 := h2 $$ H2
  ihave H3 := h3 $$ H3
  ihave H4 := h4 $$ H4
  icases H0 with ⟨A0, A1, A2⟩
  icases H1 with ⟨B0, B1, B2⟩
  icases H2 with ⟨C0, C1, C2, C3⟩
  icases H3 with ⟨D0, D1, D2, D3⟩
  iframe

theorem rooms_scratch (c : Dev nD) : (rooms c : sProp 𝕄) ⊢ scratch c := by
  have h0 : iprop(room c (slot3 ysM 0) ∗ room c (slot3 ysM 1) ∗ room c (slot3 ysM 2)) ⊢ (any c cc0_scratch0 : sProp 𝕄) := (of_rooms3 (F := F) c ysM).trans (Entails.of_eq (any_owns c cc0_scratch0).symm)
  have h1 : iprop(room c (slot3 yrM 0) ∗ room c (slot3 yrM 1) ∗ room c (slot3 yrM 2)) ⊢ (any c cc0_scratch1 : sProp 𝕄) := (of_rooms3 (F := F) c yrM).trans (Entails.of_eq (any_owns c cc0_scratch1).symm)
  have h2 : iprop(room c (slot4 fwM 0) ∗ room c (slot4 fwM 1) ∗ room c (slot4 fwM 2) ∗ room c (slot4 fwM 3)) ⊢ (any c cc0_scratch2 : sProp 𝕄) := (of_rooms4 (F := F) c fwM).trans (Entails.of_eq (any_owns c cc0_scratch2).symm)
  have h3 : iprop(room c (slot4 bwM 0) ∗ room c (slot4 bwM 1) ∗ room c (slot4 bwM 2) ∗ room c (slot4 bwM 3)) ⊢ (any c cc0_scratch3 : sProp 𝕄) := (of_rooms4 (F := F) c bwM).trans (Entails.of_eq (any_owns c cc0_scratch3).symm)
  have h4 : room c apM ⊢ (any c cc0_scratch4 : sProp 𝕄) := Entails.of_eq (any_owns c cc0_scratch4).symm
  unfold scratch rooms
  iintro ⟨A0, A1, A2, B0, B1, B2, C0, C1, C2, C3, D0, D1, D2, D3, E⟩
  ihave H0 := h0 $$ [A0 A1 A2]; · iframe
  ihave H1 := h1 $$ [B0 B1 B2]; · iframe
  ihave H2 := h2 $$ [C0 C1 C2 C3]; · iframe
  ihave H3 := h3 $$ [D0 D1 D2 D3]; · iframe
  ihave H4 := h4 $$ E
  iframe

/-! ## The result -/

/-- The row blocks of the result, counted round the ring from device `c`. -/
def seat (c : Dev nD) : Fin 8 ≃ Fin 8 := Equiv.ofBijective (fun k => pos (ring k c)) (by revert c; decide)
theorem seat_apply (c : Dev nD) (k : Fin 8) : seat c k = pos (ring k c) := rfl

theorem exists_out (c : Dev nD) : ∃ X : S2048x512.Idx → Elt F .f32, ∀ p j, X ((rectO p).emb j) = outBlk m ρ c ((seat c).symm p) j :=
  haveI : Nonempty (Elt F .f32) := Elt.nonempty F .f32
  exists_glue (α := Elt F .f32) rectO rectO_disjoint fun p => outBlk m ρ c ((seat c).symm p)
/-- What device `c` holds at the end: its blocks as one array. -/
def outAt (c : Dev nD) : S2048x512.Idx → Elt F .f32 :=
  Classical.choose (exists_out m ρ c)
theorem outAt_block (c : Dev nD) (k : Fin 8) (j : S256x512.Idx) : outAt m ρ c ((rectO (pos (ring k c))).emb j) = outBlk m ρ c k j := by
  have h := Classical.choose_spec (exists_out m ρ c) (seat c k) j
  rw [Equiv.symm_apply_apply] at h
  exact h

theorem out_spots (c : Dev nD) : (any c cc0_stg1_0 : sProp 𝕄) ⊢ spots c := by
  refine (Entails.of_eq (any_owns c cc0_stg1_0)).trans ?_
  have h : ∀ X : S2048x512.Idx → Elt F .f32, (owns (c : Thread nD τ) oM fullShare X : sProp 𝕄) ⊢ spots c := fun X => by
    refine (owns_rects (c : Thread nD τ) oM fullShare rectO (fun _ _ => rfl) rectO_disjoint rectO_cover X).trans ?_
    rw [bigSep_univ_equiv (seat c)]
    refine bigSep_mono fun k _ => ?_
    have h' : (owns (c : Thread nD τ) (oM.slice (rectO (seat c k)) (fun _ => rfl)) fullShare (fun j => X ((rectO (seat c k)).emb j)) : sProp 𝕄) ⊢ spot c k := by
      unfold spot piece
      iintro H
      iexists (fun j => X ((rectO (seat c k)).emb j))
      iexact H
    exact h'
  exact sProp.exists_elim h

theorem pieces_out (c : Dev nD) : pieces m ρ c ⊢ (owns (c : Thread nD τ) oM fullShare (outAt m ρ c) : sProp 𝕄) := by
  refine .trans ?_ (owns_of_rects (c : Thread nD τ) oM fullShare rectO (fun _ _ => rfl) rectO_disjoint rectO_cover (outAt m ρ c))
  rw [bigSep_univ_equiv (seat c)]
  have h : ∀ k, piece c k (outBlk m ρ c k) ⊢ (owns (c : Thread nD τ) (oM.slice (rectO (seat c k)) (fun _ => rfl)) fullShare (fun j => outAt m ρ c ((rectO (seat c k)).emb j)) : sProp 𝕄) := fun k => ?_
  · exact bigSep_mono fun k _ => h k
  have e : (fun j => outAt m ρ c ((rectO (seat c k)).emb j)) = outBlk m ρ c k := funext fun j => outAt_block m ρ c k j
  rw [e]
  exact .rfl

end Cert.AllReduce

end
-- ==== Proof.Tokens.lean ====
/-
  The launch's share-out: who gets which token, the semaphores' state, and the credit.
-/
module

public import proofs.«01_k».proof.Proof.Slots
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option backward.proofsInPublic true

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## The tokens -/

/-- The raises that a device's own transfers make on its own send semaphores. -/
def selfTab : List Tab :=
  [⟨Equiv.refl _, 2, 0, 0, 0⟩, ⟨Equiv.refl _, 3, 0, 0, 0⟩, ⟨Equiv.refl _, 4, 0, 0, 0⟩, ⟨Equiv.refl _, 8, 0, 0, 0⟩, ⟨Equiv.refl _, 9, 0, 0, 0⟩,
    ⟨Equiv.refl _, 10, 0, 0, 0⟩, ⟨Equiv.refl _, 8, 1, 0, 0⟩, ⟨Equiv.refl _, 9, 1, 0, 0⟩, ⟨Equiv.refl _, 10, 1, 0, 0⟩, ⟨Equiv.refl _, 14, 0, 0, 0⟩]

/-- All raises that one device makes. -/
def raise (j : Fin 27) : Tab := (tab ++ selfTab)[j.val]'(by have := j.isLt; exact this)

/-- A token as the launch makes it, by the device whose semaphore it is of. -/
abbrev tokOf (x : Dev nD × Fin 27) : GSem nD τ sig × ℕ × Fin 6 := (kcell (x.1, (raise x.2).k), (raise x.2).r, (raise x.2).d)

theorem raise_inj : ∀ j j' : Fin 27, (raise j).k = (raise j').k → (raise j).r = (raise j').r → (raise j).d = (raise j').d → j = j' := by decide

theorem tokOf_inj : Function.Injective tokOf := fun x y h => by
  obtain ⟨h1, h2⟩ := Prod.mk.inj h
  obtain ⟨h3, h4⟩ := Prod.mk.inj h2
  have h5 := kcell_inj h1
  obtain ⟨h6, h7⟩ := Prod.mk.inj h5
  exact Prod.ext h6 (raise_inj _ _ h7 h3 h4)

/-- All semaphores of the exchange, -/
def cells : Finset (GSem nD τ sig) := Finset.univ.map ⟨kcell, kcell_inj⟩
/-- and all tokens. -/
def tokens : Finset (GSem nD τ sig × ℕ × Fin 6) := Finset.univ.map ⟨tokOf, tokOf_inj⟩

omit [FloatOps F] in
/-- The tokens, handed to the devices that make the raises. -/
theorem tokens_eq : bigSep tokens (fun x => (dutyTok ER x.1 x.2.1 x.2.2 : sProp 𝕄)) = bigSep Finset.univ fun c : Dev nD => toks c := by
  unfold tokens
  rw [bigSep_map, bigSep_univ_equiv (Equiv.prodCongrLeft fun j => (raise j).f), bigSep_univ_prod]
  refine bigSep_congr fun c _ => ?_
  exact bigSep_univ_eq_bigSepL [0, 1, 2, 3, 4, 5, 6, 7, 8, 9, 10, 11, 12, 13, 14, 15, 16, 17, 18, 19, 20, 21, 22, 23, 24, 25, 26] (by decide) (by decide) _

/-! ## What the launch deals -/

/-- The state of a device's semaphores. -/
def states (c : Dev nD) : sProp 𝕄 := bigSep Finset.univ fun k : Fin 16 => roundState ER (sched m ρ) (kcell (c, k)) 0
def marks (c : Dev nD) : sProp 𝕄 := bigSep Finset.univ fun k : Fin 16 => reached ER (kcell (c, k)) 0

def dealt (c : Dev nD) : sProp 𝕄 := iprop(states m ρ c ∗ poss c (fun _ => 0) ∗ marks c ∗ toks c)

theorem deal : BI.own (ER (initOf cells tokens)) ⊢ (|==> bigSep Finset.univ (dealt m ρ) : sProp 𝕄) := by
  have hX (Φ : GSem nD τ sig → sProp 𝕄) : bigSep cells Φ = bigSep Finset.univ fun c : Dev nD => bigSep Finset.univ fun k : Fin 16 => Φ (kcell (c, k)) := by
    unfold cells; rw [bigSep_map, bigSep_univ_prod]; rfl
  iintro HX
  imod (Rounds.fund ER (sched m ρ) cells tokens) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq tokens_eq) $$ Htok
  unfold dealt states marks poss; simp only [bigSep_sep']
  isplitl [Hst]; · iexact Hst
  isplitl [Hat]; · iexact Hat
  isplitl [Hr]; · iexact Hr
  iexact Htok

/-! ## The semaphores at zero -/

/-- The kernel's own semaphores: all but the barrier's. -/
abbrev osem (k : Fin 15) : SemLoc sig := csem k.succ
theorem ownSemFacts : Pipeline.OwnSemFacts cfg0.spec osem := by decide

/-- The semaphores of a device, all at zero. -/
def still (c : Dev nD) : sProp 𝕄 := bigSep Finset.univ fun k : Fin 16 => semVal (kcell (c, k)) 0

omit [FloatOps F] in
theorem unscoped_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] in
theorem still_eq (c : Dev nD) : (still c : sProp 𝕄) = iprop(unscopedSems0 c ∗ Pipeline.ownSems0 (Ix := ℕ) (Name := ℕ) (U := UU) (Lvl := ℕ) (Val := Elt F) (τ := τ) osem c) := by
  rw [unscoped_eq, Pipeline.ownSems0_eq_of_list c osem [0, 1, 2, 3, 4, 5, 6, 7, 8, 9, 10, 11, 12, 13, 14] (by decide) (by decide)]
  exact bigSep_univ_eq_bigSepL [0, 1, 2, 3, 4, 5, 6, 7, 8, 9, 10, 11, 12, 13, 14, 15] (by decide) (by decide) _

/-! ## The invariants -/

/-- What device `c` starts with: what everyone knows, its tokens, and its positions. -/
def given (c : Dev nD) : sProp 𝕄 := iprop(∃ K, (invs m ρ K ∗ zeros) ∗ toks c ∗ poss c (fun _ => 0))

theorem alloc (c : Dev nD) :
    iprop(Pipeline.ownSems0 (Ix := ℕ) (Name := ℕ) (U := UU) (Lvl := ℕ) (Val := Elt F) (τ := τ) osem c ∗ unscopedSems0 c ∗ dealt m ρ c)
      ⊢ |={Set.univ}=> iprop((bigSep Finset.univ fun k : Fin 16 => iprop(∃ κ : ℕ, cellInv ER (sched m ρ) κ (kcell (c, k)))) ∗ marks c ∗ toks c ∗ poss c (fun _ => 0)) := by
  have hs : iprop(still c ∗ states m ρ c) ⊢ (|={Set.univ}=> bigSep Finset.univ fun k : Fin 16 => iprop(∃ κ : ℕ, cellInv ER (sched m ρ) κ (kcell (c, k))) : sProp 𝕄) := by
    unfold still states
    rw [← bigSep_sep']
    exact (bigSep_mono fun k _ => (Rounds.body_intro ER (sched m ρ) (kcell (c, k))).trans inv_alloc).trans (bigSep_fupd _ _)
  have hv : iprop(unscopedSems0 c ∗ Pipeline.ownSems0 (Ix := ℕ) (Name := ℕ) (U := UU) (Lvl := ℕ) (Val := Elt F) (τ := τ) osem c) ⊢ (still c : sProp 𝕄) := Entails.of_eq (still_eq c).symm
  unfold dealt
  iintro ⟨Ho, Hu, Hst, Hat, Hr, Htok⟩
  ihave Hv := hv $$ [Ho Hu]; · iframe
  imod hs $$ [Hv Hst] with Hi; · iframe
  imodintro
  iframe

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem share_out :
    (bigSep Finset.univ fun c : Dev nD => iprop((bigSep Finset.univ fun k : Fin 16 => iprop(∃ κ : ℕ, cellInv ER (sched m ρ) κ (kcell (c, k)))) ∗ marks c ∗ toks c ∗ poss c (fun _ => 0)) : sProp 𝕄)
      ⊢ bigSep Finset.univ (given m ρ) := by
  have hm : (bigSep Finset.univ fun c : Dev nD => marks c : sProp 𝕄) = zeros := by unfold marks zeros; rw [bigSep_univ_prod]
  have hi := BI.bigSep_exists_pi Finset.univ (fun (x : Dev nD × Fin 16) (κ : ℕ) => (cellInv ER (sched m ρ) κ (kcell x) : sProp 𝕄))
  have hg (K : Dev nD × Fin 16 → ℕ) (c : Dev nD) : iprop((invs m ρ K ∗ zeros) ∗ (toks c ∗ poss c (fun _ => 0))) ⊢ given m ρ c := by
    unfold given
    iintro H
    iexists K
    iexact H
  rw [bigSep_sep', bigSep_sep', hm, ← bigSep_univ_prod (fun x : Dev nD × Fin 16 => iprop(∃ κ : ℕ, cellInv ER (sched m ρ) κ (kcell x)))]
  iintro ⟨HI, #HZ, Hl⟩
  ihave HK := hi $$ HI
  icases HK with ⟨%K, #HI⟩
  iapply (bigSep_with (R := iprop(invs m ρ K ∗ zeros)) fun c _ => hg K c)
  isplitr
  · isplitr
    · unfold invs; iexact HI
    iexact HZ
  iexact Hl

theorem setup : (bigSep Finset.univ fun c => iprop(Pipeline.ownSems0 (Ix := ℕ) (Name := ℕ) (U := UU) (Lvl := ℕ) (Val := Elt F) (τ := τ) osem c ∗ unscopedSems0 c ∗ dealt m ρ c) : sProp 𝕄)
    ⊢ |={Set.univ}=> bigSep Finset.univ (given m ρ) :=
  ((bigSep_mono fun c _ => alloc m ρ c).trans (bigSep_fupd _ _)).trans (BI.fupd_mono (share_out m ρ))

/-! ## The credit -/

omit [FloatOps F] in
theorem cred_join (g : GSem nD τ sig) (i a b : ℕ) : iprop(cred (tallyAt g i a) ∗ cred (tallyAt g i b)) ⊢ (cred (tallyAt g i (a + b)) : sProp 𝕄) := by
  rw [← tallyAt_add]
  exact (cred_add _ _).2

omit [FloatOps F] in
theorem creds_of (c : Dev nD) : (Pipeline.launchCred (fun d => owedL (left d 0)) c : sProp 𝕄) ⊢ creds c := by
  refine (launchCred_tab c tab).trans ?_
  have e0 : amt 0 = 1 := rfl
  have e5 : amt 5 = N := rfl
  have e6 : amt 6 = N := rfl
  have e7 : amt 7 = N := rfl
  have e11 : amt 11 = N := rfl
  have e12 : amt 12 = N := rfl
  have e13 : amt 13 = N := rfl
  have e15 : amt 15 = N := rfl
  simp only [tab, credL, e0, e5, e6, e7, e11, e12, e13, e15]
  unfold creds
  iintro ⟨⟨⟨⟨⟨⟨⟨⟨⟨⟨⟨⟨⟨⟨⟨⟨⟨-, C16⟩, C15⟩, C14⟩, C13⟩, C12⟩, C11⟩, C10⟩, C9⟩, C8⟩, C7⟩, C6⟩, C5⟩, C4⟩, C3⟩, C2⟩, C1⟩, C0⟩
  ihave B := (cred_join (F := F) (kcell (c, 0)) 1 1 1) $$ [C0 C1]; · iframe
  ihave B := (cred_join (F := F) (kcell (c, 0)) 1 (1 + 1) 1) $$ [B C2]; · iframe
  ihave B := (cred_join (F := F) (kcell (c, 0)) 1 (1 + 1 + 1) 1) $$ [B C3]; · iframe
  ihave B := (cred_join (F := F) (kcell (c, 0)) 1 (1 + 1 + 1 + 1) 1) $$ [B C4]; · iframe
  ihave B := (cred_join (F := F) (kcell (c, 0)) 1 (1 + 1 + 1 + 1 + 1) 1) $$ [B C5]; · iframe
  isplitl [B]; · iexact B
  iframe

end Cert.AllReduce

end
-- ==== Proof.Launch.lean ====
/-
  The launch: the body of the kernel inside the pipeline that stages its argument and its result, and the whole run.
-/
module

public import proofs.«01_k».proof.Proof.Tokens
public import Idealize.ShloMosaic.Lib.Pipeline.CollectiveSegs

@[expose] public section

set_option backward.proofsInPublic true

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- What a device owes at the start. -/
abbrev owed₀ (c : Dev nD) : CellTallies nD τ sig ℕ := owedL (left c 0)

/-- What the body starts with, besides the staging buffers; -/
def begins (c : Dev nD) : sProp 𝕄 := iprop(given m ρ c ∗ creds c ∗ levels)
def Φ₀ (c : Dev nD) : sProp 𝕄 := iprop(begins m ρ c ∗ scratch c)
/-- and what it ends with. -/
def Φ₁ (c : Dev nD) : sProp 𝕄 := iprop(scratch c ∗ still c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => owed₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N0 t]; rfl

/-! ## The body -/

/-- A staging buffer at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt 0 (t0_0 : Fin cfg0.N).castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ c ∗ (dats m ρ 0 c).owesAt 0 (t0_0 : Fin cfg0.N).succ ∗ stg c cc0_stg0_0 (xstg m ρ c) ∗ stg c cc0_stg1_0 (outAt m ρ c))

theorem arg_in (c : Dev nD) : iprop(∃ d, stg c cc0_stg0_0 ((dats m ρ 0 c).before (0 : Fin 2) t0_0 d)) ⊢ arg m ρ c := by
  have h : ∀ d, (dats m ρ 0 c).before (0 : Fin 2) t0_0 d = xstg m ρ c := fun d => by unfold Dat.before; rw [if_pos (fetch_0 t0_0)]; rfl
  simp only [h]
  unfold arg
  iintro ⟨%d, H⟩
  iexact H

theorem out_in (c : Dev nD) : iprop(∃ d, stg c cc0_stg1_0 ((dats m ρ 0 c).before (1 : Fin 2) t0_0 d)) ⊢ spots (F := F) c := by
  refine .trans ?_ (out_spots (F := F) c)
  unfold any
  iintro ⟨%d, %f, -, H⟩
  iexists f
  iexact H

theorem out_back (c : Dev nD) : pieces m ρ c ⊢ stg c cc0_stg1_0 (outAt m ρ c) :=
  (pieces_out m ρ c).trans (Entails.of_eq (owns_whole_eq c cc0_stg1_0 (outAt m ρ c)))

theorem owe_in (c : Dev nD) : (dats m ρ 0 c).owesAt 0 (t0_0 : Fin cfg0.N).castSucc ⊢ owe (F := F) c (left c 0) := by
  unfold Dat.owesAt Pipeline.owesWithin owe
  iintro ⟨%W, -, H⟩
  iexists W
  iexact H
theorem owe_back (c : Dev nD) : owe (F := F) c (left c 17) ⊢ (dats m ρ 0 c).owesAt 0 (t0_0 : Fin cfg0.N).succ := by
  unfold Dat.owesAt Pipeline.owesWithin owe
  iintro ⟨%W, H⟩
  iexists W
  isplitr; · ipureintro; exact fun _ _ => Or.inl trivial
  iexact H

/-- At the end all semaphores are taken back, at zero. -/
theorem close_all (K : Dev nD × Fin 16 → ℕ) (c : Dev nD) : iprop(known m ρ K ∗ poss c rounds) ⊢ |={Set.univ}=> still c := by
  have h : ∀ k : Fin 16, rounds k = 2 ∨ (rounds k = 1 ∧ ¬(8 ≤ k.val ∧ k.val ≤ 13)) := by decide
  unfold poss still
  exact (bigSep_with fun k _ => step_close m ρ K c k (rounds k) (h k)).trans (bigSep_fupd _ _)

theorem body_whole (c : Dev nD) :
    bodyPre m ρ c ⊢ runs c (cc0_body (F := F) xM (Memref.isWhole_whole _) oM (Memref.isWhole_whole _) ysM (Memref.isWhole_whole _) yrM (Memref.isWhole_whole _)
      fwM (Memref.isWhole_whole _) bwM (Memref.isWhole_whole _) apM (Memref.isWhole_whole _) cc0_scratch5 cc0_scratch6 cc0_scratch7 cc0_scratch8 cc0_scratch9 cc0_scratch10 cc0_scoped0)
        (fun _ => bodyPost m ρ c) := by
  refine .trans ?_ (wp_fupd _ _ _ _ _)
  have harg : arg m ρ c ⊢ stg c cc0_stg0_0 (xstg m ρ c) := .rfl
  unfold bodyPre bodyPost Φ₀ Φ₁ begins given
  iintro ⟨⟨⟨⟨%K, ⟨#HI, #HZ⟩, Ht, Hp⟩, Hc, #HL⟩, Hs⟩, Ho, Hx, Hout⟩
  ihave Hx := (arg_in m ρ c) $$ Hx
  ihave Hout := (out_in m ρ c) $$ Hout
  ihave Ho := (owe_in m ρ c) $$ Ho
  ihave Hs := (scratch_rooms (F := F) c) $$ Hs
  ihave #HK := (show iprop(invs m ρ K ∗ zeros ∗ levels) ⊢ known m ρ K from .rfl) $$ []
  · isplitr; · iexact HI
    isplitr; · iexact HZ
    iexact HL
  ihave H := (body_run m ρ K c) $$ [Ho Ht Hp Hc Hs Hx Hout]
  · isplitr; · iexact HK
    iframe
  iapply (wp_wand _ _ _) $$ H
  iintro %_ ⟨Ho, Hp, Hs, Hx, Hout⟩
  imod (close_all m ρ K c) $$ [Hp] with Hst
  · isplitr; · iexact HK
    iexact Hp
  imodintro
  ihave Hs := (rooms_scratch (F := F) c) $$ Hs
  ihave Ho := (owe_back m ρ c) $$ Ho
  ihave Hout := (out_back m ρ c) $$ Hout
  ihave Hx := harg $$ Hx
  iframe

set_option maxRecDepth 4000 in
/-- The body obligation of the pipeline on device `c`. -/
theorem body_obligation (c : Dev nD) : BodyObligation (dats (F := F) m ρ 0 c) (defs₀ (F := F)) 𝒱₀ 0 Set.univ := fun t => by
  rw [fin_N0 t]
  rw [bigSep_W, bigSep_W]
  simp only [owns_whole_eq]
  exact body_whole m ρ c

/-! ## The launch -/

theorem share_eq (c : Dev nD) (w : Fin cfg0.W) : (dats m ρ 0 c).share w = fullShare := by unfold Dat.share; split <;> rfl

/-- The ghost state of the launch. -/
def u₀ : UU := (initOf (Pipeline.cells cfgs cellOf_inj) (Pipeline.launchToks cfgs cellOf_inj), initOf cells tokens)

theorem start_intro (c : Dev nD) :
    iprop(Pipeline.unscopedRestP Pipeline.Prefetch.none cfg0.spec c (fun b => m ((c : Thread nD τ).loc b)) ∗ levAts LL lv
        ∗ Pipeline.launchCred owed₀ c ∗ prngReg c (ρ c) ∗ given m ρ c)
      ⊢ |={Set.univ}=> iprop(begins m ρ c ∗ emp) := by
  iintro ⟨-, Hlev, Hcr, -, HG⟩
  ihave Hc := (creds_of (F := F) c) $$ Hcr
  imodintro
  unfold begins levels
  isplitl
  · iframe
  · iempintro

theorem phi0_intro (c : Dev nD) :
    iprop(begins m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch any
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch any
  rw [still_eq]
  iintro ⟨Hr, Hu, Ho⟩
  isplitl [Hu]; · iexact Hu
  isplitl [Ho]; · iexact Ho
  iexact Hr

theorem waits (c : Dev nD) : (levAts LL lv : sProp 𝕄) ⊢ Pipeline.cellsWaits cfgs (dats m ρ) 0 0 c :=
  Pipeline.cellsWaits_intro cfgs (dats m ρ) 0 0 c fun w s t => by
    rcases t with ⟨_ | _, ht⟩
    · exact mayWait_owed c _ 0 (left c 0) (by decide) (above c 0 (by decide))
    · exact mayWait_owed c _ 0 [] (by decide) (by intro j hj; cases hj)

/-! ## The run -/

/-- What the array of a window holds in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every weakly fair run of the program ends, without a fault; the argument is unchanged, each device's result is what
    `outAt` says, and every semaphore is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := LL) (lv := lv) (hL := SiteBlocks.hL NL) (hwaits := waits m ρ)
    (G := dealt m ρ) (G' := given m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := setup m ρ)
    (hA := fun _ _ => rfl) (hpf := fun _ k => k.elim0)
    (X := begins m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array holds what it held. -/
theorem finalA_arg (c : Dev nD) : finalA m ρ c (0 : Fin 2) = (s₀ m ρ).mem (win0_0.arr.view.loc (c : Thread nD τ)) :=
  (dats (F := F) m ρ 0 c).arrAt_in (0 : Fin 2) rfl _

end Cert.AllReduce

end
-- ==== Proof.Value.lean ====
/-
  What the devices hold at the end, over the extended reals: each its columns of the sum of the four slabs.
-/
module

public import proofs.«01_k».proof.Proof.Launch
public import proofs.«01_k».proof.Proof.Gen.ReferenceIdeal.Run
public import Idealize.ShloMosaic.Lib.Layout
public import Idealize.ShloMosaic.Lib.IdealHost
public import Idealize.ShloMosaic.Lib.ValueIdx
public import Idealize.ShloMosaic.Lib.Pipeline.Value
public import Idealize.ShloMosaic.Lib.Pointwise.Reduce

@[expose] public section

set_option backward.proofsInPublic true

noncomputable section

namespace Cert.AllReduce

open Cert.KernelIdeal Cert.KernelIdeal.Gen

open Idealize.ShloMosaic
open Idealize.ShloMosaic.TcCoe
open Idealize.ShloMosaic.Pipeline (Dat Cfg Window)

section AnyFloats

variable {F : FTy → Type} [FloatOps F]
variable (m : (ℓ : Loc nD τ sig) → Buf (Elt F) ℓ) (ρ : Dev nD → PrngReg)

/-- The staged argument is the argument array: its one block is the whole of it. -/
theorem xstg_eq (c : Dev nD) : xstg m ρ c = m ((c : Thread nD τ).loc main_arg0) :=
  Memref.read_access_unit_zero (Elt F) main_arg0 (off := fun a => win0_0.index (0 : Fin 1) a * main_arg0.ty.shape.size a)
    (funext fun a => by fin_cases a <;> decide) (fun a => by fin_cases a <;> decide) _

/-- The result array ends at what the body leaves in the staging buffer. -/
theorem finalA_out (c : Dev nD) : finalA m ρ c (1 : Fin 2) = outAt m ρ c := by
  have hread : ∀ f, (win0_1.blk (0 : Fin 1)).view.read (Elt F) f = f :=
    fun f => Memref.read_access_unit_zero (Elt F) main_v1 (off := fun a => win0_1.index (0 : Fin 1) a * main_v1.ty.shape.size a)
      (funext fun a => by fin_cases a <;> decide) (fun a => by fin_cases a <;> decide) f
  have hstep := (dats m ρ 0 c).arrAt_succ (1 : Fin 2) t0_0
  rw [if_pos (show (cfg0.win (1 : Fin 2)).flush t0_0 = true by decide)] at hstep
  unfold finalA
  exact (hread _).symm.trans ((congrArg _ hstep).trans (View.read_write_univ _ _))

/-- A load of one block at row `r₀` and column `j₀`. -/
theorem load_at (X : S1x2048x2048.Idx → Elt F .bf16) (off : Fin 3 → ℕ) (inb : ∀ a, off a + S1x256x512.size a ≤ S1x2048x2048.size a)
    (r₀ j₀ : ℕ) (h : off = ![0, r₀, j₀]) (r : Fin 256) (j : Fin 512) (hr : r₀ + r.val < 2048) (hj : j₀ + j.val < 2048) :
    xM.view.readAt (Elt F) (Rect.unit (s := S1x2048x2048) off S1x256x512.size inb).toLoadRect X (ix3 0 r j)
      = X (ix3 0 ⟨r₀ + r.val, hr⟩ ⟨j₀ + j.val, hj⟩) := by
  subst h
  refine congrArg X (funext fun a => Fin.ext ?_)
  fin_cases a
  · rfl
  · show r₀ + 1 * r.val = r₀ + r.val; omega
  · show j₀ + 1 * j.val = j₀ + j.val; omega

theorem sq_at (X : FVec F S1x256x512 .bf16) (r : Fin 256) (j : Fin 512) : sq X (ix2 r j) = X (ix3 0 r j) :=
  shapeCast_apply X shapeCasts_S1x256x512_S256x512 (ix2 r j) (ix3 0 r j) (by
    rw [Shape.rowMajor_val_three, Shape.rowMajor_val_two]
    show (0 * 256 + r.val) * 512 + j.val = r.val * 512 + j.val
    omega)

/-- The casts to and from a leading unit axis cancel in the blocks that are sent. -/
theorem ysv_eq (c : Dev nD) (h : Fin 3) : ysv m ρ c h = sq (chunk m ρ c h) := by
  unfold ysv k0_pay1
  exact sq_unsq _
theorem own_eq (c : Dev nD) : own m ρ c = k0_pay7 (acc m ρ c) := by
  unfold own k0_pay8
  exact sq_unsq _

end AnyFloats

/-- The shape of the whole argument: four slabs. -/
abbrev slabs : Shape := ⟨3, ![4, 2048, 2048]⟩

theorem row_lt (p : Fin 8) (r : Fin 256) : 256 * p.val + r.val < 2048 := by omega
theorem col_lt (q : Fin 4) (j : Fin 512) : 512 * q.val + j.val < 2048 := by omega
/-- Row `r` of row block `p`; column `j` of column block `q`. -/
abbrev rowAt (p : Fin 8) (r : Fin 256) : Fin 2048 := ⟨256 * p.val + r.val, row_lt p r⟩
abbrev colAt (q : Fin 4) (j : Fin 512) : Fin 2048 := ⟨512 * q.val + j.val, col_lt q j⟩

variable (m : (ℓ : Loc nD τ sig) → Buf (Elt Ideal) ℓ) (ρ : Dev nD → PrngReg)

/-- Every device holds its slab of `X`: the one at its coordinate along `y`. -/
def Holds (X : slabs.Idx → EReal) : Prop :=
  ∀ (c : Dev nD) (r j : Fin 2048), m ((c : Thread nD τ).loc main_arg0) (ix3 (0 : Fin 1) r j) = X (ix3 (col c) r j)

/-- The sum of the slabs of `X`. -/
def total (X : slabs.Idx → EReal) (r j : Fin 2048) : EReal := ∑ q : Fin 4, X (ix3 q r j)

/-- A sum over the four coordinates along `y`, taken from any of them on. -/
theorem sum_from (k : Fin 4) (f : Fin 4 → EReal) : f k + f (k + 1) + f (k + 2) + f (k + 3) = ∑ q, f q := by
  rw [← Equiv.sum_comp (Equiv.addLeft k) f, Fin.sum_univ_four]
  simp only [Equiv.coe_addLeft, add_zero]

variable {m} {X : slabs.Idx → EReal} (H : Holds m X)
include H

/-- The block that a device sends `h + 1` further along `y`: its rows, the columns of the device that it goes to. -/
theorem ysv_at (c : Dev nD) (h : Fin 3) (r : Fin 256) (j : Fin 512) :
    ysv m ρ c h (ix2 r j) = X (ix3 (col c) (rowAt (pos c) r) (colAt (col c + h.castSucc + 1) j)) := by
  rw [ysv_eq, sq_at]
  exact (load_at _ _ _ _ _ (off1_eq c h) r j (row_lt _ _) (col_lt _ _)).trans ((congrFun (xstg_eq m ρ c) _).trans (H c _ _))

/-- The block that it keeps: its rows, its columns. -/
theorem mine_at (c : Dev nD) (r : Fin 256) (j : Fin 512) :
    sq (mine m ρ c) (ix2 r j) = X (ix3 (col c) (rowAt (pos c) r) (colAt (col c) j)) := by
  rw [sq_at]
  exact (load_at _ _ _ _ _ (off4_eq c) r j (row_lt _ _) (col_lt _ _)).trans ((congrFun (xstg_eq m ρ c) _).trans (H c _ _))

/-- Its block of the result: the sum of the four slabs in its rows and its columns. -/
theorem acc_at (c : Dev nD) (r : Fin 256) (j : Fin 512) : acc m ρ c (ix2 r j) = total X (rowAt (pos c) r) (colAt (col c) j) := by
  have e : acc m ρ c (ix2 r j) = sq (mine m ρ c) (ix2 r j) + sq (unsq (ysv m ρ (across 1 c) 2)) (ix2 r j)
      + sq (unsq (ysv m ρ (across 2 c) 1)) (ix2 r j) + sq (unsq (ysv m ρ (across 3 c) 0)) (ix2 r j) := rfl
  have back : ∀ (q : Fin 4), q + 1 + (2 : Fin 3).castSucc + 1 = q ∧ q + 2 + (1 : Fin 3).castSucc + 1 = q ∧ q + 3 + (0 : Fin 3).castSucc + 1 = q := by decide
  rw [e, sq_unsq, sq_unsq, sq_unsq, mine_at ρ H, ysv_at ρ H, ysv_at ρ H, ysv_at ρ H]
  simp only [col_across, pos_across, (back (col c)).1, (back (col c)).2.1, (back (col c)).2.2]
  exact sum_from (col c) fun q => X (ix3 q (rowAt (pos c) r) (colAt (col c) j))

/-- A block that comes round the ring is its maker's block of the result. -/
theorem outBlk_at (c : Dev nD) (k : Fin 8) (r : Fin 256) (j : Fin 512) :
    outBlk m ρ c k (ix2 r j) = total X (rowAt (pos (ring k c)) r) (colAt (col c) j) := by
  have hown : ∀ d, k0_pay16 (own m ρ d) = acc m ρ d := fun d => by
    rw [own_eq]; rfl
  unfold outBlk
  split
  · next h => subst h; rw [ring_zero]; exact acc_at ρ H c r j
  · rw [hown, acc_at ρ H, col_ring]

/-- What a device holds at the end: its columns of the sum, in every row. -/
theorem outAt_at (c : Dev nD) (r : Fin 2048) (j : Fin 512) : outAt m ρ c (ix2 r j) = total X r (colAt (col c) j) := by
  have hp : r.val / 256 < 8 := by omega
  have hi : (ix2 r j : S2048x512.Idx) = (rectO ⟨r.val / 256, hp⟩).emb (ix2 (⟨r.val % 256, Nat.mod_lt _ (by decide)⟩ : Fin 256) j) := by
    refine funext fun a => Fin.ext ?_
    fin_cases a
    · show r.val = 256 * (r.val / 256) + 1 * (r.val % 256); omega
    · show j.val = 0 + 1 * j.val; omega
  obtain ⟨k, hk⟩ := (seat c).surjective ⟨r.val / 256, hp⟩
  have hk' : pos (ring k c) = ⟨r.val / 256, hp⟩ := hk
  rw [hi, ← hk', outAt_block m ρ c k, outBlk_at ρ H, hk']
  congr 1
  exact Fin.ext (Nat.div_add_mod r.val 256)

omit H

/-! ## The reference -/

/-- The array that the reference computes from `X`, at an index: the sum of the slabs. -/
theorem reference_at (hb : FTy.bits .bf16 < FTy.bits .f32) (hr : slabs.ReducesTo [0] ReferenceIdeal.S2048x2048) (hu : 0 < ReferenceIdeal.S_.numel)
    (X : slabs.Idx → EReal) (r j : Fin 2048) :
    (extf .f32 (truncf .bf16 (Host.reduceAdd (F := Ideal) (extf .f32 (X : FVec Ideal slabs .bf16) hb)
      (constant ReferenceIdeal.S_ .f32 0x00000000#32) hr hu) hb)
      hb : FVec Ideal ReferenceIdeal.S2048x2048 .f32) (ix2 r j) = total X r j := by
  rw [ValueIdx.extf_apply, ValueIdx.truncf_apply, ValueIdx.hostReduceAdd_apply]
  refine (Ideal.hostReduceAdd_r3_a0 hr _ _ _).trans ?_
  rw [show constant (F := Ideal) ReferenceIdeal.S_ .f32 0x00000000#32 (Shape.Idx.first hu) = 0 from Ideal.ofBits_zero_f32, zero_add]
  rfl

/-! ## The layout -/

/-- The block coordinates of a device's part of the argument and of the result. -/
abbrev slabOf (c : Dev nD) := Layout.meshBlock [2, 4, 4] ![[1], [], []] c
abbrev colsOf (c : Dev nD) := Layout.meshBlock [2, 4, 4] ![[], [1]] c

/-- The slab of a device is at its coordinate along `y`; -/
theorem holds_of_layout (X : slabs.Idx → EReal)
    (h : ∀ c : Dev nD, m ((c : Thread nD τ).loc main_arg0) = Layout.blockN ⟨3, ![1, 2048, 2048]⟩ ⟨3, ![4, 2048, 2048]⟩ (slabOf c) X) :
    Holds m X := fun c r j => by
  have hy : ∀ c : Dev nD, (slabOf c 0 : ℕ) = (col c).val ∧ (slabOf c 1 : ℕ) = 0
      ∧ (slabOf c 2 : ℕ) = 0 := by decide +kernel
  rw [h c, Layout.blockN_apply]
  refine congrArg X (funext fun a => Fin.ext ?_)
  rw [Layout.TilesN.idx_val]
  fin_cases a
  · show (slabOf c 0 : ℕ) * 1 + 0 = (col c).val; rw [(hy c).1]; omega
  · show (slabOf c 1 : ℕ) * 2048 + r.val = r.val; rw [(hy c).2.1]; omega
  · show (slabOf c 2 : ℕ) * 2048 + j.val = j.val; rw [(hy c).2.2]; omega

/-- and so are its columns of the result. -/
theorem cols_of_layout (c : Dev nD) (V : ReferenceIdeal.S2048x2048.Idx → EReal) (r : Fin 2048) (j : Fin 512) :
    Layout.blockN ⟨2, ![2048, 512]⟩ ⟨2, ![2048, 2048]⟩ (colsOf c) V (by decide) (ix2 r j) = V (ix2 r (colAt (col c) j)) := by
  have hy : ∀ c : Dev nD, (colsOf c 0 : ℕ) = 0 ∧ (colsOf c 1 : ℕ) = (col c).val := by decide +kernel
  rw [Layout.blockN_apply]
  refine congrArg V (funext fun a => Fin.ext ?_)
  rw [Layout.TilesN.idx_val]
  fin_cases a
  · show (colsOf c 0 : ℕ) * 2048 + r.val = r.val; rw [(hy c).1]; omega
  · show (colsOf c 1 : ℕ) * 512 + j.val = 512 * (col c).val + j.val; rw [(hy c).2]; omega

end Cert.AllReduce

end
-- ==== Proof.lean ====
/-
  The claims about the all-reduce: the three frames, that the ideal program is the program itself, and the equality with the reference over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-! ## The frames -/

/-- The frame of the run, at any float values. -/
theorem frame {F : FTy → Type} [FloatOps F] (m : (ℓ : Loc KernelIdeal.nD KernelIdeal.τ KernelIdeal.sig) → Buf (Elt F) ℓ) (ρ : Dev KernelIdeal.nD → PrngReg) :
    θ_run KernelIdeal.defs (onTc (τ := KernelIdeal.τ) (KernelIdeal.main (F := F))) ⟨m, fun _ => 0, ρ⟩ fun r =>
      (∀ c : Dev KernelIdeal.nD, r.2.mem ((c.tc : Thread KernelIdeal.nD KernelIdeal.τ).loc KernelIdeal.main_arg0) = m ((c.tc : Thread KernelIdeal.nD KernelIdeal.τ).loc KernelIdeal.main_arg0))
        ∧ r.2.sem = fun _ => 0 :=
  (θ_run KernelIdeal.defs _ _).mono (fun _ h => ⟨fun c => (h.1 c 0).trans (AllReduce.finalA_arg m ρ c), h.2⟩) (AllReduce.run_main m ρ)

/-- The kernel's body table is the ideal program's, case by case. -/
theorem bodies_eq {F : FTy → Type} [FloatOps F] : Kernel.defs₀ (F := F) = KernelIdeal.defs₀ (F := F) := by
  unfold Kernel.defs₀ KernelIdeal.defs₀
  refine congrArg Defs.onTc (funext fun l => funext fun a => ?_)
  obtain rfl : l = (0 : Fin 1) := Subsingleton.elim (α := Fin 1) _ _
  obtain ⟨t, s⟩ := a
  rfl
theorem defs_eq {F : FTy → Type} [FloatOps F] : Kernel.defs (F := F) = KernelIdeal.defs (F := F) :=
  congrArg (Pipeline.defs (KernelIdeal.pcfgs (F := F))) bodies_eq

/-- Every run of the kernel ends, faulting nowhere, its argument as it was and every semaphore at zero. -/
theorem frame_kernel : Cert.quiescent_Kernel := fun m ρ _ => by
  rw [defs_eq]
  exact frame (F := Bits) m ρ

/-- So does every run of it over the extended reals, -/
theorem frame_kernelIdeal : Cert.quiescent_KernelIdeal := fun m ρ _ => frame (F := Ideal) m ρ

/-- and every run of the reference, which has no semaphores. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (ReferenceIdeal.Value.run (F := Ideal) m ρ)

/-! ## The value -/

/-- From argument buffers that hold the slabs of one array, every device ends with its columns of the sum of the slabs that the reference computes of that array. -/
theorem value : Cert.algebraic_KernelIdeal_ReferenceIdeal := fun m ρ m' ρ' _ hx => by
  have H := AllReduce.holds_of_layout _ hx
  refine ⟨_, (θ_run Cert.KernelIdeal.defs _ _).mono (fun r h c => ⟨?_, (h.1 c 0).trans (AllReduce.finalA_arg m ρ c)⟩) (AllReduce.run_main (F := Ideal) m ρ),
    (θ_run Cert.ReferenceIdeal.defs _ _).mono (fun r h => h 0) (ReferenceIdeal.Value.run (F := Ideal) m' ρ')⟩
  refine (h.1 c 1).trans ((AllReduce.finalA_out m ρ c).trans (funext fun i => ?_))
  rw [eq_ix2 i]
  exact (AllReduce.outAt_at ρ H c _ _).trans ((AllReduce.reference_at _ _ _ _ _ _).symm.trans (AllReduce.cols_of_layout c _ _ _).symm)

/-- All that is claimed. -/
theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
